-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v1_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x1024x256 : Shape := ⟨3, ![32, 1024, 256]⟩
abbrev S1024x256 : Shape := ⟨2, ![1024, 256]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S32x1024x256 .f32) (main_arg1 : FVec F S1024x256 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S32x1024x256 : Shape := ⟨3, ![32, 1024, 256]⟩
abbrev S1024x256 : Shape := ⟨2, ![1024, 256]⟩
abbrev S32768x256 : Shape := ⟨2, ![32768, 256]⟩
abbrev S1x1024 : Shape := ⟨2, ![1, 1024]⟩
abbrev S32768x1024 : Shape := ⟨2, ![32768, 1024]⟩
abbrev S1x1 : Shape := ⟨2, ![1, 1]⟩
abbrev S1024 : Shape := ⟨1, ![1024]⟩
abbrev S2048x256 : Shape := ⟨2, ![2048, 256]⟩
abbrev S2048x1024 : Shape := ⟨2, ![2048, 1024]⟩
abbrev S2048 : Shape := ⟨1, ![2048]⟩
abbrev S2048x1 : Shape := ⟨2, ![2048, 1]⟩
abbrev S1x2048x1 : Shape := ⟨3, ![1, 2048, 1]⟩
abbrev S1 : Shape := ⟨1, ![1]⟩
abbrev S1x1x1 : Shape := ⟨3, ![1, 1, 1]⟩
abbrev S1x1x1024 : Shape := ⟨3, ![1, 1, 1024]⟩
abbrev S_ : Shape := ⟨0, ![]⟩

abbrev nBuf : Space → Nat
  | .hbm => 12
  | .vmem => 14
  | .smem => 1
  | _ => 0

abbrev bufTy : (tb : Table) → Fin (tcTables nBuf tb) → BufTy
  | .hbm, ⟨0, _⟩ => ⟨S32x1024x256, .f32⟩
  | .hbm, ⟨1, _⟩ => ⟨S1024x256, .f32⟩
  | .hbm, ⟨2, _⟩ => ⟨S32768x256, .f32⟩
  | .hbm, ⟨3, _⟩ => ⟨S1x1024, .f32⟩
  | .hbm, ⟨4, _⟩ => ⟨S1024x256, .bf16⟩
  | .hbm, ⟨5, _⟩ => ⟨S32768x1024, .f32⟩
  | .hbm, ⟨6, _⟩ => ⟨S32768x256, .f32⟩
  | .hbm, ⟨7, _⟩ => ⟨S1x1, .f32⟩
  | .hbm, ⟨8, _⟩ => ⟨S1x1, .f32⟩
  | .hbm, ⟨9, _⟩ => ⟨S32x1024x256, .f32⟩
  | .hbm, ⟨10, _⟩ => ⟨S_, .f32⟩
  | .hbm, ⟨11, _⟩ => ⟨S_, .f32⟩
  | .local _ .vmem, ⟨0, _⟩ => ⟨S1024x256, .f32⟩
  | .local _ .vmem, ⟨1, _⟩ => ⟨S1x1024, .f32⟩
  | .local _ .vmem, ⟨2, _⟩ => ⟨S1024x256, .bf16⟩
  | .local _ .vmem, ⟨3, _⟩ => ⟨S2048x256, .f32⟩
  | .local _ .vmem, ⟨4, _⟩ => ⟨S2048x256, .f32⟩
  | .local _ .vmem, ⟨5, _⟩ => ⟨S1x1024, .f32⟩
  | .local _ .vmem, ⟨6, _⟩ => ⟨S1024x256, .bf16⟩
  | .local _ .vmem, ⟨7, _⟩ => ⟨S2048x1024, .f32⟩
  | .local _ .vmem, ⟨8, _⟩ => ⟨S2048x1024, .f32⟩
  | .local _ .vmem, ⟨9, _⟩ => ⟨S2048x256, .f32⟩
  | .local _ .vmem, ⟨10, _⟩ => ⟨S2048x256, .f32⟩
  | .local _ .vmem, ⟨11, _⟩ => ⟨S1x1, .f32⟩
  | .local _ .vmem, ⟨12, _⟩ => ⟨S1x1, .f32⟩
  | .local _ .vmem, ⟨13, _⟩ => ⟨S1x1024, .f32⟩
  | .local _ .smem, ⟨0, _⟩ => ⟨S1x1, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0_0 : Ref sig .tc := ⟨.hbm, 3, rfl⟩
abbrev main_call0_v0_1 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg6_0 : Ref sig .tc := ⟨.vmem, 12, rfl⟩
abbrev cc1_scratch1 : Ref sig .tc := ⟨.vmem, 13, rfl⟩
abbrev cc1_scratch0 : Ref sig .tc := ⟨.smem, 0, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc1_sem6_0 : DmaSem sig := 12

abbrev nD : Nat := 1
abbrev τ : Topo := Topo.v7x

variable {F : FTy → Type} [FloatOps F]

abbrev grid0 : Pipeline.Grid := .none

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![16], ![false]⟩

def k1_cond3 (i : grid1.Coords) : BitVec 1 :=
  let arg0 : BitVec 32 := BitVec.ofNat 32 (i 0).val
  let c15_i32 : BitVec 32 := 15#32
  let v50 : BitVec 1 := Scalar.cmpi .eq arg0 c15_i32
  let v51 : BitVec 32 := Scalar.extui v50
  let c0_i32_21 : BitVec 32 := 0#32
  let v52 : BitVec 1 := Scalar.cmpi .ne v51 c0_i32_21
  v52

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== ReferenceIdeal.lean ====
abbrev S32x1024x256 : Shape := ⟨3, ![32, 1024, 256]⟩
abbrev S1024x256 : Shape := ⟨2, ![1024, 256]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S256x1024 : Shape := ⟨2, ![256, 1024]⟩

abbrev nBuf : Space → Nat
  | .hbm => 64
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S1024x256, .f32⟩
  | .hbm, ⟨2, _⟩ => ⟨S32768x256, .f32⟩
  | .hbm, ⟨3, _⟩ => ⟨S32768x256, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S256x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .i32⟩
  | .hbm, ⟨21, _⟩ => ⟨S_, .f32⟩
  | .hbm, ⟨22, _⟩ => ⟨S_, .i32⟩
  | .hbm, ⟨23, _⟩ => ⟨S32768, .f32⟩
  | .hbm, ⟨24, _⟩ => ⟨S32768, .i32⟩
  | .hbm, ⟨25, _⟩ => ⟨S32768x1, .i32⟩
  | .hbm, ⟨26, _⟩ => ⟨S1x1024, .i32⟩
  | .hbm, ⟨27, _⟩ => ⟨S32768x1024, .i32⟩
  | .hbm, ⟨28, _⟩ => ⟨S32768x1024, .i32⟩
  | .hbm, ⟨29, _⟩ => ⟨S32768x1024, .i1⟩
  | .hbm, ⟨30, _⟩ => ⟨S32768x1024, .f32⟩
  | .hbm, ⟨31, _⟩ => ⟨S32768x256, .f32⟩
  | .hbm, ⟨32, _⟩ => ⟨S32x1024x256, .f32⟩
  | .hbm, ⟨33, _⟩ => ⟨S32x1024x256, .f32⟩
  | .hbm, ⟨34, _⟩ => ⟨S32x1024x256, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S32x1024x256, .f32⟩
  | .hbm, ⟨40, _⟩ => ⟨S32x1024x256, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S32x1024x256, .f32⟩
  | .hbm, ⟨49, _⟩ => ⟨S32x1024x256, .f32⟩
  | .hbm, ⟨50, _⟩ => ⟨S_, .f32⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== Proof.Prep.lean ====
/- The first call, on any memrefs: it squares and sums the rows of the codebook into one row, and rounds the codebook to the
   narrow format. Both results are what the two payloads of its skeleton say of the codebook it loads. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.VecWindow
public import Idealize.ShloMosaic.Lib.Pipeline.FrameBody
public import Idealize.ShloMosaic.Lib.Tactic

@[expose] public section

set_option maxRecDepth 16384

noncomputable section

namespace Cert.KernelIdeal.Vq

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body of the first call keeps the codebook and leaves in its two outputs the row of squared norms (`k0_pay1`) and the
    rounded codebook (`k0_pay2`). -/
theorem prep_body (c : Dev nD) (E : Set ℕ) (arg0 : Memref sig .tc .vmem S1024x256 .f32) (harg0 : arg0.IsWhole)
    (arg1 : Memref sig .tc .vmem S1x1024 .f32) (harg1 : arg1.IsWhole)
    (arg2 : Memref sig .tc .vmem S1024x256 .bf16) (harg2 : arg2.IsWhole)
    (x : Vec F S1024x256 .f32) (K : PUnit → sProp 𝕄) :
    iprop(owns (c : Thread nD τ) arg0 fullShare x ∗ (∃ d, owns (c : Thread nD τ) arg1 fullShare d)
        ∗ (∃ d, owns (c : Thread nD τ) arg2 fullShare d)
        ∗ (iprop(owns (c : Thread nD τ) arg0 fullShare x ∗ owns (c : Thread nD τ) arg1 fullShare (k0_pay1 x)
            ∗ owns (c : Thread nD τ) arg2 fullShare (k0_pay2 x)) -∗ K ⟨⟩))
      ⊢ wp frame (wpE (defs₀ (F := F)) Variants.none c none) E (cc0__prep_kernel arg0 harg0 arg1 harg1 arg2 harg2) K := by
  simp only [cc0__prep_kernel_eq_skeleton]; unfold cc0__prep_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_full _ _ _ _ _).trans ?_
    rw [View.readAt_full]
  iexists _; isplitr
  swap; · iexact H2
  ipureintro
  refine (View.read_writes_full _ _ _ _ _).trans ?_
  rw [View.readAt_full]

/-! ## The first call's proof data, at any entry contents `V` -/

section
variable (V : (c : Dev nD) → (b : Ref sig .tc) → Buf (Elt F) ((c : Thread nD τ).loc b))

/-- The block of window `w` of the first call at point `t`, read off its array as the call finds it. -/
def prepBlk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The first call's proof data: its arrays as it finds them, the codebook's buffer kept, the outputs at the payloads. -/
def prepDat (c : Dev nD) : Dat τ (Elt F) Unit ℕ (UR sig nD τ) ℕ cfg0 c where
  A w := V c (Pipeline.arrRef spec0 w)
  after w t := match w with
    | ⟨0, _⟩ => prepBlk V c 0 t
    | ⟨1, _⟩ => k0_pay1 (prepBlk V c 0 t)
    | ⟨2, _⟩ => k0_pay2 (prepBlk V c 0 t)
  Φ _ := Pipeline.ΦA spec0 c
  q _ := fullShare
  owed _ := 0

/-- The arrays of the proof data are the entry contents. -/
theorem prepDat_A (c : Dev nD) (w : Fin cfg0.W) : (prepDat V c).A w = V c (Pipeline.arrRef spec0 w) := by
  dsimp only [prepDat]

/-- The codebook's buffer after the body. -/
theorem prep_after_0 (c : Dev nD) (t : Fin cfg0.N) : (prepDat V c).after 0 t = prepBlk V c 0 t := by dsimp only [prepDat]
/-- The norms' buffer after the body. -/
theorem prep_after_1 (c : Dev nD) (t : Fin cfg0.N) : (prepDat V c).after 1 t = k0_pay1 (prepBlk V c 0 t) := by dsimp only [prepDat]
/-- The rounded codebook's buffer after the body. -/
theorem prep_after_2 (c : Dev nD) (t : Fin cfg0.N) : (prepDat V c).after 2 t = k0_pay2 (prepBlk V c 0 t) := by dsimp only [prepDat]

/-- The codebook's buffer holds its block before the body. -/
theorem prep_before_0 (c : Dev nD) (t : Fin cfg0.N) (d) : (prepDat V c).before 0 t d = prepBlk V c 0 t :=
  ((prepDat V c).before_in_eq_fetched 0 rfl (fun _ => rfl) (fun _ _ _ => rfl)
    (fun t => by rw [prep_after_0]; unfold Dat.blockOf prepBlk; rw [prepDat_A]; try rfl) t d).trans
    (by unfold Dat.fetched Dat.blockOf prepBlk; rw [prepDat_A]; try rfl)

/-- The first call's body at its point, from the invariant and the windows' buffers to the same with the outputs filled. -/
theorem prep_sound (c : Dev nD) (t : Fin cfg0.N) :
    iprop((prepDat V c).Φ t.castSucc ∗ (prepDat V c).owesAt () t.castSucc
        ∗ (∃ d, owns (c : Thread nD τ) (st0_0 t) fullShare ((prepDat V c).before 0 t d))
        ∗ (∃ d, owns (c : Thread nD τ) (st0_1 t) fullShare ((prepDat V c).before 1 t d))
        ∗ (∃ d, owns (c : Thread nD τ) (st0_2 t) fullShare ((prepDat V c).before 2 t d)))
      ⊢ wp frame (wpE (defs₀ (F := F)) Variants.none c none) Set.univ (bodyAt0 t) (fun _ =>
        iprop((prepDat V c).Φ t.succ ∗ (prepDat V c).owesAt () t.succ
          ∗ owns (c : Thread nD τ) (st0_0 t) fullShare ((prepDat V c).after 0 t)
          ∗ owns (c : Thread nD τ) (st0_1 t) fullShare ((prepDat V c).after 1 t)
          ∗ owns (c : Thread nD τ) (st0_2 t) fullShare ((prepDat V c).after 2 t))) := by
  unfold bodyAt0
  simp only [prep_before_0]
  rw [show (prepDat V c).Φ t.succ = (prepDat V c).Φ t.castSucc from rfl,
    show (prepDat V c).owesAt () t.succ = (prepDat V c).owesAt () t.castSucc from rfl,
    prep_after_0, prep_after_1, prep_after_2]
  iintro ⟨HΦ, Ho, ⟨%d0, H0⟩, ⟨%d1, H1⟩, ⟨%d2, H2⟩⟩
  iapply (prep_body c Set.univ _ _ _ _ _ _ (prepBlk V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row for the first call is its body. -/
theorem prep_row (t : Fin cfg0.N) :
    defs₀ (F := F) .tc cfg0.body (cfg0.bodyArgs t (cfg0.slots t)) = bodyAt0 t := by
  unfold defs₀; rw [Defs.onTc_tc]

/-- The obligation of the first call's body at every point. -/
theorem prep_obligation (c : Dev nD) :
    BodyObligation (prepDat (F := F) V c) (defs₀ (F := F)) Variants.none () Set.univ := fun t => by
  rw [bigSep_W0, bigSep_W0, prep_row]
  exact triple_restated (prep_sound V c t) rfl .rfl fun _ => .rfl

end

end Cert.KernelIdeal.Vq

end
-- ==== Proof.Body.lean ====
/- The second call at one point of its grid, on any memrefs, in the three cases its conditions make: the first point (the
   carried sum and counts are set), a later point (they are added to), the last point (they are added to, then the loss and
   the perplexity are computed from them). What the body leaves is stated by the payloads of its skeleton. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.VecWindow
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Vq

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: this is the first point. -/
abbrev isFirst (i : grid1.Coords) : Prop := (Scalar.cmpi .ne (Scalar.extui (Scalar.cmpi .eq (BitVec.ofNat 32 (i 0).val) 0#32)) 0#32) = 1#1
/-- The body's second condition: this is a later point. -/
abbrev isLater (i : grid1.Coords) : Prop := (Scalar.cmpi .ne (Scalar.extui (Scalar.cmpi .sgt (BitVec.ofNat 32 (i 0).val) 0#32)) 0#32) = 1#1
/-- The body's third condition: this is the last point. -/
abbrev isLast (i : grid1.Coords) : Prop := k1_cond3 i = 1#1

/-- The carried sum after the first point: the block's sum of minima. -/
def sumFirst (mn : FVec F S2048x1 .f32) : Vec F S1x1 .f32 := fun _ => k1_pay1 mn
/-- The carried sum after a later point: what was carried plus the block's sum of minima. -/
def sumLater (mn : FVec F S2048x1 .f32) (s : Vec F S1x1 .f32) : Vec F S1x1 .f32 :=
  fun _ => k1_pay4 mn (s (Shape.Idx.first (by decide)))
/-- The loss from the carried sum. -/
def lossOf (s : Vec F S1x1 .f32) : Vec F S1x1 .f32 := k1_pay6 (s (Shape.Idx.first (by decide)))

/-- A function of three arguments takes equal arguments to equal results. -/
theorem eq_of_three {α β γ δ : Type} (g : α → β → γ → δ) {a a' : α} {b b' : β} {c c' : γ} (ha : a = a') (hb : b = b')
    (hc : c = c') : g a b c = g a' b' c' := by
  subst ha hb hc; rfl

set_option maxHeartbeats 1000000 in
/-- The last point. -/
theorem body_last (c : Dev nD) (i : grid1.Coords) (arg1 : Memref sig .tc .vmem S2048x256 .f32) (harg1 : arg1.IsWhole) (arg2 : Memref sig .tc .vmem S1x1024 .f32) (harg2 : arg2.IsWhole) (arg3 : Memref sig .tc .vmem S1024x256 .bf16) (harg3 : arg3.IsWhole) (arg4 : Memref sig .tc .vmem S2048x1024 .f32) (harg4 : arg4.IsWhole) (arg5 : Memref sig .tc .vmem S2048x256 .f32) (harg5 : arg5.IsWhole) (arg6 : Memref sig .tc .vmem S1x1 .f32) (harg6 : arg6.IsWhole) (arg7 : Memref sig .tc .vmem S1x1 .f32) (harg7 : arg7.IsWhole) (arg8 : Memref sig .tc .smem S1x1 .f32) (harg8 : arg8.IsWhole) (arg9 : Memref sig .tc .vmem S1x1024 .f32) (harg9 : arg9.IsWhole)
    (h1 : ¬isFirst i) (h2 : isLater i) (h3 : isLast i)
    (x : Vec F S2048x256 .f32) (w : Vec F S1x1024 .f32) (b : Vec F S1024x256 .bf16) (s : Vec F S1x1 .f32) (n : Vec F S1x1024 .f32)
    (E : Set ℕ) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare s ∗ owns (c : Thread nD τ) arg9 fullShare n
        ∗ (iprop(owns (c : Thread nD τ) arg1 fullShare x ∗ owns (c : Thread nD τ) arg2 fullShare w ∗ owns (c : Thread nD τ) arg3 fullShare b
            ∗ owns (c : Thread nD τ) arg4 fullShare (k1_pay11 x b w) ∗ owns (c : Thread nD τ) arg5 fullShare (k1_pay12 x b w b)
            ∗ owns (c : Thread nD τ) arg6 fullShare (lossOf (sumLater (k1_pay10 x b w) s))
            ∗ owns (c : Thread nD τ) arg7 fullShare (k1_pay7 (k1_pay5 (k1_pay11 x b w) n))
            ∗ owns (c : Thread nD τ) arg8 fullShare (sumLater (k1_pay10 x b w) s)
            ∗ owns (c : Thread nD τ) arg9 fullShare (k1_pay5 (k1_pay11 x b w) n)) -∗ K ⟨⟩))
      ⊢ wp frame (wpE (defs₀ (F := F)) Variants.none c none) E (cc1__vq_kernel i arg1 harg1 arg2 harg2 arg3 harg3 arg4 harg4 arg5 harg5 arg6 harg6 arg7 harg7 arg8 harg8 arg9 harg9) K := by
  simp only [cc1__vq_kernel_eq_skeleton]; unfold cc1__vq_kernel_skel
  simp only [k1_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%fs0, %hfs0, HS0⟩, ⟨%fs1, %hfs1, HS1⟩, Hk⟩
  subst hf0 hf1 hf2 hfs0 hfs1
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_full _ _ _ _ _).trans
      (eq_of_three _ (View.readAt_full _ _ _) (View.readAt_full _ _ _) (View.readAt_full _ _ _))
  isplitl [H4]
  · iexists _; isplitr
    swap; · iexact H4
    ipureintro
    exact (View.read_writes_full _ _ _ _ _).trans
      (congr (eq_of_three _ (View.readAt_full _ _ _) (View.readAt_full _ _ _) (View.readAt_full _ _ _)) (View.readAt_full _ _ _))
  isplitl [H5]
  · iexists _; isplitr
    swap; · iexact H5
    ipureintro
    refine (View.read_writes_full _ _ _ _ _).trans ?_
    refine congrArg k1_pay6 (congr (congrArg k1_pay4 ?_) ?_)
    · unfold body_last.sl.r
      exact eq_of_three _ (View.readAt_full _ _ _) (View.readAt_full _ _ _) (View.readAt_full _ _ _)
    · unfold body_last.sl.r_2
      exact congrFun (View.readAt_full _ _ _) _
  isplitl [H6]
  · iexists _; isplitr
    swap; · iexact H6
    ipureintro
    refine (View.read_writes_full _ _ _ _ _).trans (congrArg k1_pay7 ?_)
    unfold body_last.sl.v58 body_last.sl.HS1_1 body_last.sl.r_1
    refine (View.readCov_full _ _ _ _ _).trans (congr (congrArg k1_pay5 ?_) (View.readAt_full _ _ _))
    exact eq_of_three _ (View.readAt_full _ _ _) (View.readAt_full _ _ _) (View.readAt_full _ _ _)
  isplitl [HS0]
  · iexists _; isplitr
    swap; · iexact HS0
    ipureintro
    refine (View.read_writes_full _ _ _ _ _).trans (funext fun _ => congr (congrArg k1_pay4 ?_) ?_)
    · unfold body_last.sl.r
      exact eq_of_three _ (View.readAt_full _ _ _) (View.readAt_full _ _ _) (View.readAt_full _ _ _)
    · unfold body_last.sl.r_2
      exact congrFun (View.readAt_full _ _ _) _
  iexists _; isplitr
  swap; · iexact HS1
  ipureintro
  unfold body_last.sl.HS1_1 body_last.sl.r_1
  refine (View.read_writes_full _ _ _ _ _).trans (congr (congrArg k1_pay5 ?_) (View.readAt_full _ _ _))
  exact eq_of_three _ (View.readAt_full _ _ _) (View.readAt_full _ _ _) (View.readAt_full _ _ _)

set_option maxHeartbeats 1000000 in
/-- A later point that is not the last: the loss and the perplexity are left as they were. -/
theorem body_later (c : Dev nD) (i : grid1.Coords) (arg1 : Memref sig .tc .vmem S2048x256 .f32) (harg1 : arg1.IsWhole) (arg2 : Memref sig .tc .vmem S1x1024 .f32) (harg2 : arg2.IsWhole) (arg3 : Memref sig .tc .vmem S1024x256 .bf16) (harg3 : arg3.IsWhole) (arg4 : Memref sig .tc .vmem S2048x1024 .f32) (harg4 : arg4.IsWhole) (arg5 : Memref sig .tc .vmem S2048x256 .f32) (harg5 : arg5.IsWhole) (arg6 : Memref sig .tc .vmem S1x1 .f32) (harg6 : arg6.IsWhole) (arg7 : Memref sig .tc .vmem S1x1 .f32) (harg7 : arg7.IsWhole) (arg8 : Memref sig .tc .smem S1x1 .f32) (harg8 : arg8.IsWhole) (arg9 : Memref sig .tc .vmem S1x1024 .f32) (harg9 : arg9.IsWhole)
    (h1 : ¬isFirst i) (h2 : isLater i) (h3 : ¬isLast i)
    (x : Vec F S2048x256 .f32) (w : Vec F S1x1024 .f32) (b : Vec F S1024x256 .bf16) (s : Vec F S1x1 .f32) (n : Vec F S1x1024 .f32)
    (d6 d7 : Vec F S1x1 .f32)
    (E : Set ℕ) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ owns (c : Thread nD τ) arg6 fullShare d6 ∗ owns (c : Thread nD τ) arg7 fullShare d7
        ∗ owns (c : Thread nD τ) arg8 fullShare s ∗ owns (c : Thread nD τ) arg9 fullShare n
        ∗ (iprop(owns (c : Thread nD τ) arg1 fullShare x ∗ owns (c : Thread nD τ) arg2 fullShare w ∗ owns (c : Thread nD τ) arg3 fullShare b
            ∗ owns (c : Thread nD τ) arg4 fullShare (k1_pay11 x b w) ∗ owns (c : Thread nD τ) arg5 fullShare (k1_pay12 x b w b)
            ∗ owns (c : Thread nD τ) arg6 fullShare d6 ∗ owns (c : Thread nD τ) arg7 fullShare d7
            ∗ owns (c : Thread nD τ) arg8 fullShare (sumLater (k1_pay10 x b w) s)
            ∗ owns (c : Thread nD τ) arg9 fullShare (k1_pay5 (k1_pay11 x b w) n)) -∗ K ⟨⟩))
      ⊢ wp frame (wpE (defs₀ (F := F)) Variants.none c none) E (cc1__vq_kernel i arg1 harg1 arg2 harg2 arg3 harg3 arg4 harg4 arg5 harg5 arg6 harg6 arg7 harg7 arg8 harg8 arg9 harg9) K := by
  simp only [cc1__vq_kernel_eq_skeleton]; unfold cc1__vq_kernel_skel
  simp only [k1_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, ⟨%fs0, %hfs0, HS0⟩, ⟨%fs1, %hfs1, HS1⟩, Hk⟩
  subst hf0 hf1 hf2 hf5 hf6 hfs0 hfs1
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_full _ _ _ _ _).trans
      (eq_of_three _ (View.readAt_full _ _ _) (View.readAt_full _ _ _) (View.readAt_full _ _ _))
  isplitl [H4]
  · iexists _; isplitr
    swap; · iexact H4
    ipureintro
    exact (View.read_writes_full _ _ _ _ _).trans
      (congr (eq_of_three _ (View.readAt_full _ _ _) (View.readAt_full _ _ _) (View.readAt_full _ _ _)) (View.readAt_full _ _ _))
  isplitl [H5]
  · iexists f5; isplitr; · ipureintro; rfl
    iexact H5
  isplitl [H6]
  · iexists f6; isplitr; · ipureintro; rfl
    iexact H6
  isplitl [HS0]
  · iexists _; isplitr
    swap; · iexact HS0
    ipureintro
    refine (View.read_writes_full _ _ _ _ _).trans (funext fun _ => congr (congrArg k1_pay4 ?_) ?_)
    · unfold body_later.sl.r
      exact eq_of_three _ (View.readAt_full _ _ _) (View.readAt_full _ _ _) (View.readAt_full _ _ _)
    · unfold body_later.sl.r_2
      exact congrFun (View.readAt_full _ _ _) _
  iexists _; isplitr
  swap; · iexact HS1
  ipureintro
  unfold body_later.sl.r_1
  refine (View.read_writes_full _ _ _ _ _).trans (congr (congrArg k1_pay5 ?_) (View.readAt_full _ _ _))
  exact eq_of_three _ (View.readAt_full _ _ _) (View.readAt_full _ _ _) (View.readAt_full _ _ _)

set_option maxHeartbeats 1000000 in
/-- The first point: the carried sum and counts are set, whatever they were; the loss and the perplexity are left as they were. -/
theorem body_first (c : Dev nD) (i : grid1.Coords) (arg1 : Memref sig .tc .vmem S2048x256 .f32) (harg1 : arg1.IsWhole) (arg2 : Memref sig .tc .vmem S1x1024 .f32) (harg2 : arg2.IsWhole) (arg3 : Memref sig .tc .vmem S1024x256 .bf16) (harg3 : arg3.IsWhole) (arg4 : Memref sig .tc .vmem S2048x1024 .f32) (harg4 : arg4.IsWhole) (arg5 : Memref sig .tc .vmem S2048x256 .f32) (harg5 : arg5.IsWhole) (arg6 : Memref sig .tc .vmem S1x1 .f32) (harg6 : arg6.IsWhole) (arg7 : Memref sig .tc .vmem S1x1 .f32) (harg7 : arg7.IsWhole) (arg8 : Memref sig .tc .smem S1x1 .f32) (harg8 : arg8.IsWhole) (arg9 : Memref sig .tc .vmem S1x1024 .f32) (harg9 : arg9.IsWhole)
    (h1 : isFirst i) (h2 : ¬isLater i) (h3 : ¬isLast i)
    (x : Vec F S2048x256 .f32) (w : Vec F S1x1024 .f32) (b : Vec F S1024x256 .bf16) (d6 d7 : Vec F S1x1 .f32)
    (E : Set ℕ) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ owns (c : Thread nD τ) arg6 fullShare d6 ∗ owns (c : Thread nD τ) arg7 fullShare d7
        ∗ (∃ d, owns (c : Thread nD τ) arg8 fullShare d) ∗ (∃ d, owns (c : Thread nD τ) arg9 fullShare d)
        ∗ (iprop(owns (c : Thread nD τ) arg1 fullShare x ∗ owns (c : Thread nD τ) arg2 fullShare w ∗ owns (c : Thread nD τ) arg3 fullShare b
            ∗ owns (c : Thread nD τ) arg4 fullShare (k1_pay11 x b w) ∗ owns (c : Thread nD τ) arg5 fullShare (k1_pay12 x b w b)
            ∗ owns (c : Thread nD τ) arg6 fullShare d6 ∗ owns (c : Thread nD τ) arg7 fullShare d7
            ∗ owns (c : Thread nD τ) arg8 fullShare (sumFirst (k1_pay10 x b w))
            ∗ owns (c : Thread nD τ) arg9 fullShare (k1_pay3 (k1_pay11 x b w))) -∗ K ⟨⟩))
      ⊢ wp frame (wpE (defs₀ (F := F)) Variants.none c none) E (cc1__vq_kernel i arg1 harg1 arg2 harg2 arg3 harg3 arg4 harg4 arg5 harg5 arg6 harg6 arg7 harg7 arg8 harg8 arg9 harg9) K := by
  simp only [cc1__vq_kernel_eq_skeleton]; unfold cc1__vq_kernel_skel
  simp only [k1_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, ⟨%ds0, %fs0, -, HS0⟩, ⟨%ds1, %fs1, -, HS1⟩, Hk⟩
  subst hf0 hf1 hf2 hf5 hf6
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_full _ _ _ _ _).trans
      (eq_of_three _ (View.readAt_full _ _ _) (View.readAt_full _ _ _) (View.readAt_full _ _ _))
  isplitl [H4]
  · iexists _; isplitr
    swap; · iexact H4
    ipureintro
    exact (View.read_writes_full _ _ _ _ _).trans
      (congr (eq_of_three _ (View.readAt_full _ _ _) (View.readAt_full _ _ _) (View.readAt_full _ _ _)) (View.readAt_full _ _ _))
  isplitl [H5]
  · iexists f5; isplitr; · ipureintro; rfl
    iexact H5
  isplitl [H6]
  · iexists f6; isplitr; · ipureintro; rfl
    iexact H6
  isplitl [HS0]
  · iexists _; isplitr
    swap; · iexact HS0
    ipureintro
    refine (View.read_writes_full _ _ _ _ _).trans (funext fun _ => congrArg k1_pay1 ?_)
    unfold body_first.sl.r
    exact eq_of_three _ (View.readAt_full _ _ _) (View.readAt_full _ _ _) (View.readAt_full _ _ _)
  iexists _; isplitr
  swap; · iexact HS1
  ipureintro
  refine (View.read_writes_full _ _ _ _ _).trans (congrArg k1_pay3 ?_)
  unfold body_first.sl.r_1
  exact eq_of_three _ (View.readAt_full _ _ _) (View.readAt_full _ _ _) (View.readAt_full _ _ _)

end Cert.KernelIdeal.Vq

end
-- ==== Proof.Region.lean ====
/- The second call over its sixteen points: the sum of minima and the counts that it carries from point to point, what the
   windows' buffers hold, and the obligation of its body at every point. -/
module

public import proofs.«01_k».proof.Proof.Body

@[expose] public section

set_option maxRecDepth 16384

noncomputable section

namespace Cert.KernelIdeal.Vq

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions over the grid -/

/-- The first condition holds at point 0 only. -/
theorem isFirst_iff : ∀ t : Fin cfg1.N, isFirst (grid1.coords t) ↔ t.val = 0 :=
  (by decide +kernel : ∀ t : Fin grid1.N, isFirst (grid1.coords t) ↔ t.val = 0)
/-- The second condition holds from point 1 on. -/
theorem isLater_iff : ∀ t : Fin cfg1.N, isLater (grid1.coords t) ↔ t.val ≠ 0 :=
  (by decide +kernel : ∀ t : Fin grid1.N, isLater (grid1.coords t) ↔ t.val ≠ 0)
/-- The third condition holds at point 15 only. -/
theorem isLast_iff : ∀ t : Fin cfg1.N, isLast (grid1.coords t) ↔ t.val = 15 :=
  (by decide +kernel : ∀ t : Fin grid1.N, isLast (grid1.coords t) ↔ t.val = 15)

/-- Before the last point the loss window is idle. -/
theorem idle_loss : ∀ t : Fin cfg1.N, ¬isLast (grid1.coords t) → cfg1.idle 5 (grid1.coords t) = true := by decide +kernel
/-- Before the last point the loss window is not written back. -/
theorem noFlush_loss : ∀ t : Fin cfg1.N, ¬isLast (grid1.coords t) → (cfg1.win 5).flush t = false := by decide +kernel
/-- At the last point the loss window is live. -/
theorem live_loss : ∀ t : Fin cfg1.N, isLast (grid1.coords t) → cfg1.idle 5 (grid1.coords t) = false := by decide +kernel
/-- Before the last point the perplexity window is idle. -/
theorem idle_perp : ∀ t : Fin cfg1.N, ¬isLast (grid1.coords t) → cfg1.idle 6 (grid1.coords t) = true := by decide +kernel
/-- Before the last point the perplexity window is not written back. -/
theorem noFlush_perp : ∀ t : Fin cfg1.N, ¬isLast (grid1.coords t) → (cfg1.win 6).flush t = false := by decide +kernel
/-- At the last point the perplexity window is live. -/
theorem live_perp : ∀ t : Fin cfg1.N, isLast (grid1.coords t) → cfg1.idle 6 (grid1.coords t) = false := by decide +kernel

/-! ## The proof data, at any entry contents `V` -/

section
variable (V : (c : Dev nD) → (b : Ref sig .tc) → Buf (Elt F) ((c : Thread nD τ).loc b))

/-- The block of window `w` of the second call at point `t`, read off its array as the call finds it. -/
def vqBlk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The minima of the distances of the rows of block `t`. -/
def minAt (c : Dev nD) (t : Fin cfg1.N) : FVec F S2048x1 .f32 := k1_pay10 (vqBlk V c 0 t) (vqBlk V c 2 t) (vqBlk V c 1 t)
/-- The one-hot rows of block `t`. -/
def encAt (c : Dev nD) (t : Fin cfg1.N) : Vec F S2048x1024 .f32 := k1_pay11 (vqBlk V c 0 t) (vqBlk V c 2 t) (vqBlk V c 1 t)
/-- The quantized rows of block `t`. -/
def quantAt (c : Dev nD) (t : Fin cfg1.N) : Vec F S2048x256 .f32 :=
  k1_pay12 (vqBlk V c 0 t) (vqBlk V c 2 t) (vqBlk V c 1 t) (vqBlk V c 2 t)

/-- The carried sum after point `n`. -/
def sumAt (c : Dev nD) : (n : ℕ) → n < cfg1.N → Vec F S1x1 .f32
  | 0, h => sumFirst (minAt V c ⟨0, h⟩)
  | n + 1, h => sumLater (minAt V c ⟨n + 1, h⟩) (sumAt c n (Nat.lt_of_succ_lt h))

/-- The carried counts after point `n`. -/
def cntAt (c : Dev nD) : (n : ℕ) → n < cfg1.N → Vec F S1x1024 .f32
  | 0, h => k1_pay3 (encAt V c ⟨0, h⟩)
  | n + 1, h => k1_pay5 (encAt V c ⟨n + 1, h⟩) (cntAt c n (Nat.lt_of_succ_lt h))

/-- The carried sum at the first point. -/
theorem sumAt_first (c : Dev nD) (t : Fin cfg1.N) (h : t.val = 0) : sumAt V c t.val t.isLt = sumFirst (minAt V c t) := by
  obtain ⟨n, hn⟩ := t; subst h; rfl
/-- The carried sum at a later point, from the one before. -/
theorem sumAt_later (c : Dev nD) (t : Fin cfg1.N) (h : t.val ≠ 0) :
    sumAt V c t.val t.isLt = sumLater (minAt V c t) (sumAt V c (t.val - 1) (Nat.lt_of_le_of_lt (Nat.sub_le _ _) t.isLt)) := by
  obtain ⟨n, hn⟩ := t
  cases n with
  | zero => exact absurd rfl h
  | succ n => rfl
/-- The carried counts at the first point. -/
theorem cntAt_first (c : Dev nD) (t : Fin cfg1.N) (h : t.val = 0) : cntAt V c t.val t.isLt = k1_pay3 (encAt V c t) := by
  obtain ⟨n, hn⟩ := t; subst h; rfl
/-- The carried counts at a later point, from the ones before. -/
theorem cntAt_later (c : Dev nD) (t : Fin cfg1.N) (h : t.val ≠ 0) :
    cntAt V c t.val t.isLt = k1_pay5 (encAt V c t) (cntAt V c (t.val - 1) (Nat.lt_of_le_of_lt (Nat.sub_le _ _) t.isLt)) := by
  obtain ⟨n, hn⟩ := t
  cases n with
  | zero => exact absurd rfl h
  | succ n => rfl

/-- The carried sum's buffer. -/
abbrev sumBuf : Memref sig .tc .smem S1x1 .f32 := Memref.whole cc1_scratch0
/-- The carried counts' buffer. -/
abbrev cntBuf : Memref sig .tc .vmem S1x1024 .f32 := Memref.whole cc1_scratch1

/-- The buffers of the first call that the second call leaves alone, each at some contents. -/
def bystanders (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f))

/-- What the launch hands the second call, the two carried buffers apart from the rest. -/
theorem PhiA_iff (c : Dev nD) :
    (Pipeline.ΦA spec1 c : sProp 𝕄)
      = iprop(iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ d, owns (c : Thread nD τ) cntBuf fullShare d) ∗ (∃ d, owns (c : Thread nD τ) sumBuf fullShare d)) ∗ (∃ r, prngReg c r)) := by
  unfold Pipeline.ΦA; rw [scopedRest1_eq]; simp only [sumBuf, cntBuf, owns_whole]; try rfl

/-- The invariant before point `n`: before the first point the carried buffers hold anything, later what the point before
    left. -/
def vqInv (c : Dev nD) : (n : ℕ) → n ≤ cfg1.N → sProp 𝕄
  | 0, _ => Pipeline.ΦA spec1 c
  | n + 1, h => iprop(bystanders (F := F) c ∗ owns (c : Thread nD τ) cntBuf fullShare (cntAt V c n h)
      ∗ owns (c : Thread nD τ) sumBuf fullShare (sumAt V c n h) ∗ (∃ r, prngReg c r))

/-- The invariant before the first point. -/
theorem vqInv_zero (c : Dev nD) (n : ℕ) (h : n ≤ cfg1.N) (hz : n = 0) : vqInv V c n h = Pipeline.ΦA spec1 c := by
  subst hz; rfl
/-- The invariant after point `n`. -/
theorem vqInv_succ (c : Dev nD) (n : ℕ) (h : n < cfg1.N) :
    vqInv V c (n + 1) h = iprop(bystanders (F := F) c ∗ owns (c : Thread nD τ) cntBuf fullShare (cntAt V c n h)
      ∗ owns (c : Thread nD τ) sumBuf fullShare (sumAt V c n h) ∗ (∃ r, prngReg c r)) := rfl
/-- The invariant before a point that is not the first. -/
theorem vqInv_pos (c : Dev nD) (n : ℕ) (h : n ≤ cfg1.N) (hz : n ≠ 0) :
    vqInv V c n h = iprop(bystanders (F := F) c
      ∗ owns (c : Thread nD τ) cntBuf fullShare (cntAt V c (n - 1) (by omega))
      ∗ owns (c : Thread nD τ) sumBuf fullShare (sumAt V c (n - 1) (by omega)) ∗ (∃ r, prngReg c r)) := by
  cases n with
  | zero => exact absurd rfl hz
  | succ n => rfl

/-- The second call's proof data. -/
def vqDat (c : Dev nD) : Dat τ (Elt F) Unit ℕ (UR sig nD τ) ℕ cfg1 c where
  A w := V c (Pipeline.arrRef spec1 w)
  after w t := match w with
    | ⟨0, _⟩ => vqBlk V c 0 t
    | ⟨1, _⟩ => vqBlk V c 1 t
    | ⟨2, _⟩ => vqBlk V c 2 t
    | ⟨3, _⟩ => encAt V c t
    | ⟨4, _⟩ => quantAt V c t
    | ⟨5, _⟩ => lossOf (sumAt V c t.val t.isLt)
    | ⟨6, _⟩ => k1_pay7 (cntAt V c t.val t.isLt)
  Φ t := vqInv V c t.val (Nat.le_of_lt_succ t.isLt)
  q _ := fullShare
  owed _ := 0

/-- The arrays of the proof data are the entry contents. -/
theorem vqDat_A (c : Dev nD) (w : Fin cfg1.W) : (vqDat V c).A w = V c (Pipeline.arrRef spec1 w) := by dsimp only [vqDat]
/-- The rows' buffer after the body. -/
theorem vq_after_0 (c : Dev nD) (t : Fin cfg1.N) : (vqDat V c).after 0 t = vqBlk V c 0 t := by dsimp only [vqDat]
/-- The norms' buffer after the body. -/
theorem vq_after_1 (c : Dev nD) (t : Fin cfg1.N) : (vqDat V c).after 1 t = vqBlk V c 1 t := by dsimp only [vqDat]
/-- The rounded codebook's buffer after the body. -/
theorem vq_after_2 (c : Dev nD) (t : Fin cfg1.N) : (vqDat V c).after 2 t = vqBlk V c 2 t := by dsimp only [vqDat]
/-- The one-hot rows' buffer after the body. -/
theorem vq_after_3 (c : Dev nD) (t : Fin cfg1.N) : (vqDat V c).after 3 t = encAt V c t := by dsimp only [vqDat]
/-- The quantized rows' buffer after the body. -/
theorem vq_after_4 (c : Dev nD) (t : Fin cfg1.N) : (vqDat V c).after 4 t = quantAt V c t := by dsimp only [vqDat]
/-- The loss's buffer after the body of a point that stores it. -/
theorem vq_after_5 (c : Dev nD) (t : Fin cfg1.N) : (vqDat V c).after 5 t = lossOf (sumAt V c t.val t.isLt) := by dsimp only [vqDat]
/-- The perplexity's buffer after the body of a point that stores it. -/
theorem vq_after_6 (c : Dev nD) (t : Fin cfg1.N) : (vqDat V c).after 6 t = k1_pay7 (cntAt V c t.val t.isLt) := by dsimp only [vqDat]

/-- The rows' buffer holds its block before the body. -/
theorem vq_before_0 (c : Dev nD) (t : Fin cfg1.N) (d) : (vqDat V c).before 0 t d = vqBlk V c 0 t :=
  ((vqDat V c).before_in_eq_fetched 0 rfl (fun _ => rfl) (fun _ _ _ => rfl)
    (fun t => by rw [vq_after_0]; unfold Dat.blockOf vqBlk; rw [vqDat_A]; try rfl) t d).trans
    (by unfold Dat.fetched Dat.blockOf vqBlk; rw [vqDat_A]; try rfl)
/-- The norms' buffer holds its block before the body, fetched there or not. -/
theorem vq_before_1 (c : Dev nD) (t : Fin cfg1.N) (d) : (vqDat V c).before 1 t d = vqBlk V c 1 t :=
  ((vqDat V c).before_in_eq_fetched 1 rfl (fun _ => rfl) (fun _ _ _ => rfl)
    (fun t => by rw [vq_after_1]; unfold Dat.blockOf vqBlk; rw [vqDat_A]; try rfl) t d).trans
    (by unfold Dat.fetched Dat.blockOf vqBlk; rw [vqDat_A]; try rfl)
/-- The rounded codebook's buffer holds its block before the body, fetched there or not. -/
theorem vq_before_2 (c : Dev nD) (t : Fin cfg1.N) (d) : (vqDat V c).before 2 t d = vqBlk V c 2 t :=
  ((vqDat V c).before_in_eq_fetched 2 rfl (fun _ => rfl) (fun _ _ _ => rfl)
    (fun t => by rw [vq_after_2]; unfold Dat.blockOf vqBlk; rw [vqDat_A]; try rfl) t d).trans
    (by unfold Dat.fetched Dat.blockOf vqBlk; rw [vqDat_A]; try rfl)

/-- The invariant of the proof data at a point's start. -/
theorem vqInv_castSucc (c : Dev nD) (t : Fin cfg1.N) :
    (vqDat V c).Φ t.castSucc = vqInv V c t.val (Nat.le_of_lt t.isLt) := by
  dsimp only [vqDat]; exact Pipeline.Dat.Φ_castSucc (vqInv V c) t

/-- A window of the second call that is never idle leaves its buffer at the proof data's contents. -/
theorem leaves_live {c : Dev nD} (dat : Dat τ (Elt F) Unit ℕ (UR sig nD τ) ℕ cfg1 c) (w : Fin cfg1.W) (t : Fin cfg1.N)
    (h : cfg1.idle w (grid1.coords t) = false) :
    dat.leavesExact w t = owns (c : Thread nD τ) ((cfg1.win w).stage (cfg1.slots t w)) fullShare (dat.after w t) := by
  unfold Dat.leavesExact; rw [h]

set_option maxHeartbeats 4000000 in
/-- The second call's body at any point. -/
theorem vq_sound (c : Dev nD) (t : Fin cfg1.N) :
    iprop((vqDat V c).Φ t.castSucc ∗ (vqDat V c).owesAt () t.castSucc
        ∗ (∃ d, owns (c : Thread nD τ) (st1_0 t) fullShare ((vqDat V c).before 0 t d))
        ∗ (∃ d, owns (c : Thread nD τ) (st1_1 t) fullShare ((vqDat V c).before 1 t d))
        ∗ (∃ d, owns (c : Thread nD τ) (st1_2 t) fullShare ((vqDat V c).before 2 t d))
        ∗ (∃ d, owns (c : Thread nD τ) (st1_3 t) fullShare ((vqDat V c).before 3 t d))
        ∗ (∃ d, owns (c : Thread nD τ) (st1_4 t) fullShare ((vqDat V c).before 4 t d))
        ∗ (∃ d, owns (c : Thread nD τ) (st1_5 t) fullShare ((vqDat V c).before 5 t d))
        ∗ (∃ d, owns (c : Thread nD τ) (st1_6 t) fullShare ((vqDat V c).before 6 t d)))
      ⊢ wp frame (wpE (defs₀ (F := F)) Variants.none c none) Set.univ (bodyAt1 t) (fun _ =>
        iprop((vqDat V c).Φ t.succ ∗ (vqDat V c).owesAt () t.succ
          ∗ (vqDat V c).leavesExact 0 t ∗ (vqDat V c).leavesExact 1 t ∗ (vqDat V c).leavesExact 2 t
          ∗ (vqDat V c).leavesExact 3 t ∗ (vqDat V c).leavesExact 4 t ∗ (vqDat V c).leavesExact 5 t
          ∗ (vqDat V c).leavesExact 6 t)) := by
  unfold bodyAt1
  simp only [vq_before_0, vq_before_1, vq_before_2]
  rw [show (vqDat V c).owesAt () t.succ = (vqDat V c).owesAt () t.castSucc from rfl,
    show (vqDat V c).Φ t.succ = vqInv V c (t.val + 1) t.isLt from rfl, vqInv_succ, vqInv_castSucc,
    leaves_live _ 0 t rfl, leaves_live _ 1 t rfl, leaves_live _ 2 t rfl, leaves_live _ 3 t rfl, leaves_live _ 4 t rfl,
    vq_after_0, vq_after_1, vq_after_2, vq_after_3, vq_after_4]
  by_cases h0 : t.val = 0
  · have hf : isFirst (grid1.coords t) := (isFirst_iff t).mpr h0
    have hl : ¬isLater (grid1.coords t) := fun h => (isLater_iff t).mp h h0
    have hz : ¬isLast (grid1.coords t) := fun h => by have := (isLast_iff t).mp h; omega
    rw [Dat.leavesExact_idle (vqDat V c) 5 t (idle_loss t hz) (noFlush_loss t hz),
      Dat.leavesExact_idle (vqDat V c) 6 t (idle_perp t hz) (noFlush_perp t hz),
      vqInv_zero V c _ _ h0, PhiA_iff, sumAt_first V c t h0, cntAt_first V c t h0]
    unfold bystanders
    iintro ⟨⟨⟨B0, B1, B2, HS1, HS0⟩, Hg⟩, Ho, ⟨%d0, H0⟩, ⟨%d1, H1⟩, ⟨%d2, H2⟩, ⟨%d3, H3⟩, ⟨%d4, H4⟩, ⟨%d5, H5⟩, ⟨%d6, H6⟩⟩
    iapply (body_first c (grid1.coords t) _ _ _ _ _ _ _ _ _ _ _ _ _ _ _ _ _ _ hf hl hz (vqBlk V c 0 t) (vqBlk V c 1 t) (vqBlk V c 2 t) _ _ Set.univ _)
    isplitl [H0]; · iexact H0
    isplitl [H1]; · iexact H1
    isplitl [H2]; · iexact H2
    isplitl [H3]; · iexists _; iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [B0 B1 B2 HS1 HS0 Hg]
    · isplitl [B0 B1 B2]
      · isplitl [B0]; · iexact B0
        isplitl [B1]; · iexact B1
        iexact B2
      isplitl [HS1]; · iexact HS1
      isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hf : ¬isFirst (grid1.coords t) := fun h => h0 ((isFirst_iff t).mp h)
    have hl : isLater (grid1.coords t) := (isLater_iff t).mpr h0
    rw [vqInv_pos V c _ _ h0, sumAt_later V c t h0, cntAt_later V c t h0]
    iintro ⟨⟨B, HS1, HS0, Hg⟩, Ho, ⟨%d0, H0⟩, ⟨%d1, H1⟩, ⟨%d2, H2⟩, ⟨%d3, H3⟩, ⟨%d4, H4⟩, ⟨%d5, H5⟩, ⟨%d6, H6⟩⟩
    by_cases hz : isLast (grid1.coords t)
    · rw [leaves_live _ 5 t (live_loss t hz), leaves_live _ 6 t (live_perp t hz), vq_after_5, vq_after_6,
        sumAt_later V c t h0, cntAt_later V c t h0]
      iapply (body_last c (grid1.coords t) _ _ _ _ _ _ _ _ _ _ _ _ _ _ _ _ _ _ hf hl hz (vqBlk V c 0 t) (vqBlk V c 1 t) (vqBlk V c 2 t) _ _ Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [B HS1 HS0 Hg]
      · isplitl [B]; · iexact B
        isplitl [HS1]; · iexact HS1
        isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (vqDat V c) 5 t (idle_loss t hz) (noFlush_loss t hz),
        Dat.leavesExact_idle (vqDat V c) 6 t (idle_perp t hz) (noFlush_perp t hz)]
      iapply (body_later c (grid1.coords t) _ _ _ _ _ _ _ _ _ _ _ _ _ _ _ _ _ _ hf hl hz (vqBlk V c 0 t) (vqBlk V c 1 t) (vqBlk V c 2 t) _ _ _ _ Set.univ _)
      isplitl [H0]; · iexact H0
      isplitl [H1]; · iexact H1
      isplitl [H2]; · iexact H2
      isplitl [H3]; · iexists _; iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [B HS1 HS0 Hg]
      · isplitl [B]; · iexact B
        isplitl [HS1]; · iexact HS1
        isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body table's row for the second call is its body. -/
theorem vq_row (t : Fin cfg1.N) :
    defs₀ (F := F) .tc cfg1.body (cfg1.bodyArgs t (cfg1.slots t)) = bodyAt1 t := by
  unfold defs₀; rw [Defs.onTc_tc]

/-- The obligation of the second call's body at every point. -/
theorem vq_obligation (c : Dev nD) :
    BodyObligation (vqDat (F := F) V c) (defs₀ (F := F)) Variants.none () Set.univ := fun t => by
  rw [bigSep_W1, bigSep_W1, vq_row]
  exact triple_restated (vq_sound V c t) rfl .rfl fun _ => .rfl

/-- What the launch hands the second call is the invariant before the first point. -/
theorem vq_in (c : Dev nD) : Pipeline.ΦA spec1 c ⊢ (vqDat V c).Φ 0 := by
  rw [show (vqDat V c).Φ 0 = vqInv V c 0 (Nat.zero_le _) from rfl, vqInv_zero V c 0 _ rfl]
  try exact Idealize.SL.BI.Entails.refl _

/-- After the last point the invariant gives back what the launch handed, the carried contents forgotten. -/
theorem vq_out (c : Dev nD) : (vqDat V c).Φ (Fin.last cfg1.N) ⊢ Pipeline.ΦA spec1 c := by
  have hN : (Fin.last cfg1.N).val ≠ 0 := by rw [Fin.val_last]; have : cfg1.N = 16 := N_1; omega
  rw [show (vqDat V c).Φ (Fin.last cfg1.N) = vqInv V c (Fin.last cfg1.N).val (Nat.le_of_lt_succ (Fin.last cfg1.N).isLt) from rfl,
    vqInv_pos V c _ _ hN, PhiA_iff]
  unfold bystanders
  iintro ⟨⟨B0, B1, B2⟩, HS1, HS0, Hg⟩
  isplitl [B0 B1 B2 HS1 HS0]
  · isplitl [B0]; · iexact B0
    isplitl [B1]; · iexact B1
    isplitl [B2]; · iexact B2
    isplitl [HS1]; · iexists _; iexact HS1
    iexists _; iexact HS0
  iexact Hg

end

end Cert.KernelIdeal.Vq

end
-- ==== Proof.Run.lean ====
/- The whole of @main: the host reshape, the first call, the second call, and the host operations after them, put together
   into one statement of what every buffer holds at the end of every run. -/
module

public import proofs.«01_k».proof.Proof.Prep
public import proofs.«01_k».proof.Proof.Region
public import Idealize.ShloMosaic.Lib.Pipeline.RegionsLoop
public import Idealize.ShloMosaic.Lib.Pipeline.FrameSuffix
public import Idealize.ShloMosaic.Lib.Claim

@[expose] public section

set_option maxRecDepth 16384

noncomputable section

namespace Cert.KernelIdeal.Vq

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1]

/-! ## The host stretches: none allocates a buffer, and each lists the references its operations write, in order;
    a reference that is not in the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
/-- `hostOps0` writes only the listed references. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v2, main_v3, main_v4]
/-- `hostOps2` writes only the listed references. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- At launch the arguments are as launched. -/
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Before the first call the arguments are as launched. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what the first call's proof data take). -/
abbrev V1 : (c : Dev nD) → (b : Ref sig .tc) → Buf (Elt F) ((c : Thread nD τ).loc b) := fun c b => W1 m ρ c b
/-- After the first call: its arrays hold what its write-backs leave, every other buffer what it held before. -/
def W2 (c : Dev nD) : Valuation τ sig (Elt F) :=
  Pipeline.withArrays spec0 c (W1 m ρ c) fun w => (prepDat (V1 m ρ) c).arrAt w cfg0.N
/-- An array of the first call holds what its write-backs leave. -/
theorem W2_arr (c : Dev nD) (w : Fin cfg0.W) :
    W2 m ρ c (Proc.devRef .tc (Pipeline.arrRef spec0 w)) = (prepDat (V1 m ρ) c).arrAt w cfg0.N := by
  unfold W2; exact Pipeline.withArrays_arr spec0 launch0.win.arr_inj c _ _ w
/-- A buffer that is no array of the first call keeps its contents. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is no output array of the first call keeps its contents: an input array is never written back. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((prepDat (V1 m ρ) c).arrAt_in w (h w rfl) _).trans (prepDat_A (V1 m ρ) c w))
  · exact W2_of_ne m ρ c r fun w e => hw ⟨w, e⟩
/-- Every argument among the first call's arrays is an input. -/
theorem argsIn0 : ∀ a ∈ argRefs, ∀ w : Fin cfg0.W, Pipeline.arrRef spec0 w = a → (cfg0.win w).isOut = false :=
  ListAll.forall_mem_of_all_decide (by decide +kernel)
/-- After the first call the arguments are as launched. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (what the first call leaves). -/
abbrev V2 : (c : Dev nD) → (b : Ref sig .tc) → Buf (Elt F) ((c : Thread nD τ).loc b) := fun c b => W2 m ρ c b
/-- After the first call each of its arrays holds what its write-backs leave. -/
theorem hF0 (c : Dev nD) (w : Fin cfg0.W) : (prepDat (V1 m ρ) c).arrAt w cfg0.N = V2 m ρ c (Pipeline.arrRef spec0 w) :=
  (W2_arr m ρ c w).symm
/-- After the first call every buffer that is none of its arrays holds what it held before. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second call: its arrays hold what its write-backs leave, every other buffer what it held before. -/
def W3 (c : Dev nD) : Valuation τ sig (Elt F) :=
  Pipeline.withArrays spec1 c (W2 m ρ c) fun w => (vqDat (V2 m ρ) c).arrAt w cfg1.N
/-- An array of the second call holds what its write-backs leave. -/
theorem W3_arr (c : Dev nD) (w : Fin cfg1.W) :
    W3 m ρ c (Proc.devRef .tc (Pipeline.arrRef spec1 w)) = (vqDat (V2 m ρ) c).arrAt w cfg1.N := by
  unfold W3; exact Pipeline.withArrays_arr spec1 launch1.win.arr_inj c _ _ w
/-- A buffer that is no array of the second call keeps its contents. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A buffer that is no output array of the second call keeps its contents: an input array is never written back. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((vqDat (V2 m ρ) c).arrAt_in w (h w rfl) _).trans (vqDat_A (V2 m ρ) c w))
  · exact W3_of_ne m ρ c r fun w e => hw ⟨w, e⟩
/-- Every argument among the second call's arrays is an input. -/
theorem argsIn1 : ∀ a ∈ argRefs, ∀ w : Fin cfg1.W, Pipeline.arrRef spec1 w = a → (cfg1.win w).isOut = false :=
  ListAll.forall_mem_of_all_decide (by decide +kernel)
/-- After the second call the arguments are as launched. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (what the second call leaves). -/
abbrev V3 : (c : Dev nD) → (b : Ref sig .tc) → Buf (Elt F) ((c : Thread nD τ).loc b) := fun c b => W3 m ρ c b
/-- After the second call each of its arrays holds what its write-backs leave. -/
theorem hF1 (c : Dev nD) (w : Fin cfg1.W) : (vqDat (V2 m ρ) c).arrAt w cfg1.N = V3 m ρ c (Pipeline.arrRef spec1 w) :=
  (W3_arr m ρ c w).symm
/-- After the second call every buffer that is none of its arrays holds what it held before. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- At the end the arguments are as launched. -/
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

/-- Argument 0 ends as launched. -/
theorem W4_main_arg0 (c : Dev nD) : W4 m ρ c (Proc.devRef .tc main_arg0) = m ((c : Thread nD τ).loc main_arg0) :=
  W4_args m ρ c main_arg0 (by decide)
/-- Argument 1 ends as launched. -/
theorem W4_main_arg1 (c : Dev nD) : W4 m ρ c (Proc.devRef .tc main_arg1) = m ((c : Thread nD τ).loc main_arg1) :=
  W4_args m ρ c main_arg1 (by decide)

/-! ## The proof data family and the thread state -/

/-- The prefetched tables' admissible contents: no pipeline has a table. -/
abbrev adm : (p : Fin 2) → (pcfgs (F := F) p).Adm := fun p => (cfgs p).toPCfg_adm
/-- Each call's proof data, at the contents it is entered with. -/
def pdats : (p : Fin 2) → (c : Dev nD) → Dat τ (Elt F) Unit ℕ (UR sig nD τ) ℕ (Pipeline.pin (pcfgs (F := F)) adm p) c
  | ⟨0, _⟩ => fun c => prepDat (V1 m ρ) c
  | ⟨1, _⟩ => fun c => vqDat (V2 m ρ) c
/-- No loop variants are used. -/
abbrev 𝒱₀ : Variants := Variants.none
/-- No core owes another anything: no level is assigned. -/
abbrev L : GSem nD τ sig → Finset Unit := fun _ => ∅
/-- Every level is zero. -/
abbrev lv : GSem nD τ sig → Unit → ℕ := fun _ _ => 0
/-- What rides beside the buffers: the core's generator register at some state, and that the core owes nothing. -/
abbrev R (c : Dev nD) : sProp 𝕄 := iprop((∃ r, prngReg c r) ∗ ∃ W, owes (c : Thread nD τ) (0 : CellTallies nD τ sig Unit) W)
/-- A host stretch as a segment: from the contents `W` to the contents after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the end: every unscoped buffer at its last contents, and the generator register. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first call as a segment: entered with the contents `W1`, left with the contents `W2`. Its arrays are split out
    of the buffers held and put back at the end; it owes nothing and has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (prep_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (prepDat_A (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment: entered with the contents `W2`, left with the contents `W3`. Its arrays are split out
    of the buffers held and put back at the end; it owes nothing and has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (vq_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (vqDat_A (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m ρ 1 c).Φ 0 := vq_in (V2 m ρ) c
    unfold Pipeline.ΦA at h
    iintro ⟨Hp, -, Hr⟩
    iapply h
    isplitl [Hr]; · iexact Hr
    iexact Hp
  hout c := by
    have h : (pdats m ρ 1 c).Φ (Fin.last _) ⊢ (Pipeline.ΦA spec1 c : sProp 𝕄) := vq_out (V2 m ρ) c
    unfold Pipeline.ΦA at h
    rw [Pipeline.ownSems0_none]
    iintro H
    ihave H := h $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The program's four parts in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program is the run of its four parts. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every fair run from zero counters ends with every unscoped buffer at the last boundary's contents and every counter at
    zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame at any number type: both arguments end as they were and every counter is zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c _ (mem_uc main_arg0 (by decide))).trans (W4_main_arg0 m ρ c),
     (h.1 c _ (mem_uc main_arg1 (by decide))).trans (W4_main_arg1 m ρ c)⟩, h.2⟩) (run_all m ρ)

end Cert.KernelIdeal.Vq

end
-- ==== Proof.Transfer.lean ====
module

public import proofs.«01_k».proof.Defs
public import proofs.«01_k».proof.Proof.Gen.Kernel
public import proofs.«01_k».proof.Proof.Run
public import Idealize.ShloMosaic.Lib.Tactic

/-! The program as printed for words and the program as printed for extended reals have the same text
(no operation was rewritten), so the run proved once, for any number type, serves both. -/

@[expose] public section

set_option maxRecDepth 100000

noncomputable section

namespace Cert.Vq

open Idealize.ShloMosaic Idealize.SL.Sem

/-- The two printed `main` functions are the same program. -/
theorem main_same : Cert.Kernel.main (F := Bits) = Cert.KernelIdeal.main (F := Bits) := by chain_rfl

/-- The two printed tables of bodies are the same. -/
theorem defs_same : Cert.Kernel.defs (F := Bits) = Cert.KernelIdeal.defs (F := Bits) := by chain_rfl

/-- The kernel over words runs, keeps its arguments and leaves every semaphore at zero. -/
theorem frame_words : Cert.quiescent_Kernel := by
  intro m g _
  rw [main_same, defs_same]
  exact Cert.KernelIdeal.Vq.run_frame m g

/-- The kernel over extended reals runs, keeps its arguments and leaves every semaphore at zero. -/
theorem frame_reals : Cert.quiescent_KernelIdeal := by
  intro m g _
  exact Cert.KernelIdeal.Vq.run_frame m g

end Cert.Vq

end
-- ==== Proof.Choice.lean ====
module

public import Idealize.ShloMosaic.PureOps
public import Idealize.ShloMosaic.PureOps.Ideal
public import Idealize.ShloMosaic.Lib.Pointwise
public import Idealize.ShloMosaic.Lib.SortNet.Extract

/-! The first smallest entry of a row of extended reals, and the two ways the programs find it: a
minimum over the positions that hold the smallest value, and one pass that keeps the better pair of
value and position. -/

@[expose] public section

set_option maxRecDepth 16384

noncomputable section

namespace Cert.Vq

open Idealize.ShloMosaic

/-- `k` is the first place at which the row `f` is smallest. -/
def FirstMin {n : ℕ} (f : Fin n → EReal) (k : Fin n) : Prop :=
  (∀ j, f k ≤ f j) ∧ ∀ j, j < k → f k < f j

/-- A row has at most one first smallest place. -/
theorem FirstMin.unique {n : ℕ} {f : Fin n → EReal} {k l : Fin n} (hk : FirstMin f k) (hl : FirstMin f l) :
    k = l := by
  rcases lt_trichotomy k l with h | h | h
  · exact absurd (hl.2 k h) (not_lt.2 (hk.1 l))
  · exact h
  · exact absurd (hk.2 l h) (not_lt.2 (hl.1 k))

/-- A row that is not empty has a first smallest place. -/
theorem FirstMin.exists {n : ℕ} (f : Fin (n + 1) → EReal) : ∃ k, FirstMin f k := by
  classical
  obtain ⟨k₀, -, h₀⟩ := Finset.exists_min_image (Finset.univ : Finset (Fin (n + 1))) f ⟨0, Finset.mem_univ _⟩
  have hne : (Finset.univ.filter fun k => ∀ j, f k ≤ f j).Nonempty :=
    ⟨k₀, Finset.mem_filter.2 ⟨Finset.mem_univ _, fun j => h₀ j (Finset.mem_univ _)⟩⟩
  obtain ⟨k, hk, hmin⟩ := Finset.exists_min_image _ (fun k : Fin (n + 1) => k) hne
  have hk' := (Finset.mem_filter.1 hk).2
  refine ⟨k, hk', fun j hj => lt_of_le_of_ne (hk' j) fun e => ?_⟩
  have : k ≤ j := hmin j (Finset.mem_filter.2 ⟨Finset.mem_univ _, fun i => e ▸ hk' i⟩)
  exact absurd hj (not_lt.2 this)

/-- The indicator row of `f`: 1 at its first smallest place, 0 elsewhere. -/
def hot {n : ℕ} (f : Fin n → EReal) (k : Fin n) : EReal := by
  classical exact if FirstMin f k then 1 else 0

/-- The indicator row with its place known. -/
theorem hot_eq {n : ℕ} {f : Fin n → EReal} {b : Fin n} (hb : FirstMin f b) (k : Fin n) :
    hot f k = if b = k then 1 else 0 := by
  unfold hot
  by_cases h : FirstMin f k
  · rw [if_pos h, if_pos (hb.unique h)]
  · rw [if_neg h, if_neg (by rintro rfl; exact h hb)]

/-- The minimum taken from the top is the value at the first smallest place. -/
theorem fold_min_eq {n : ℕ} {f : Fin n → EReal} {k : Fin n} (hk : FirstMin f k) :
    (Finset.univ : Finset (Fin n)).fold min ⊤ f = f k := by
  apply le_antisymm
  · exact (Finset.fold_min_le _).2 (.inr ⟨k, Finset.mem_univ _, le_rfl⟩)
  · exact (Finset.le_fold_min _).2 ⟨le_top, fun j _ => hk.1 j⟩

/-- A signed minimum of words over a set is no larger than any of them, and is the start or one of them. -/
theorem fold_minsi_spec {ι : Type} [DecidableEq ι] (g : ι → BitVec 32) (s : Finset ι) (z : BitVec 32) :
    (∀ i ∈ s, (s.fold IntOp.minsi z g).toInt ≤ (g i).toInt)
      ∧ (s.fold IntOp.minsi z g = z ∨ ∃ i ∈ s, s.fold IntOp.minsi z g = g i) := by
  induction s using Finset.induction_on with
  | empty => exact ⟨fun i h => absurd h (Finset.notMem_empty i), .inl (Finset.fold_empty ..)⟩
  | insert a s ha ih =>
    rw [Finset.fold_insert ha]
    have hm := SortNet.toInt_minsi (g a) (s.fold IntOp.minsi z g)
    constructor
    · intro i hi
      rw [hm]
      rcases Finset.mem_insert.1 hi with rfl | h
      · exact min_le_left _ _
      · exact (min_le_right _ _).trans (ih.1 i h)
    · rcases le_total (g a).toInt (s.fold IntOp.minsi z g).toInt with h | h
      · refine .inr ⟨a, Finset.mem_insert_self _ _, BitVec.eq_of_toInt_eq ?_⟩
        rw [hm, min_eq_left h]
      · have e : IntOp.minsi (g a) (s.fold IntOp.minsi z g) = s.fold IntOp.minsi z g :=
          BitVec.eq_of_toInt_eq (by rw [hm, min_eq_right h])
        rw [e]
        exact ih.2.imp id fun ⟨i, hi, h'⟩ => ⟨i, Finset.mem_insert_of_mem hi, h'⟩

/-- The word of a number below 2³¹, read signed, is the number. -/
theorem toInt_small {k : ℕ} (h : k < 2 ^ 31) : (BitVec.ofNat 32 k).toInt = k := by
  rw [BitVec.toInt_eq_toNat_cond, BitVec.toNat_ofNat, Nat.mod_eq_of_lt (by omega)]
  split <;> omega

/-- Position words are equal exactly when the positions are. -/
theorem ofNat_inj {a b : ℕ} (ha : a < 2 ^ 31) (hb : b < 2 ^ 31) : BitVec.ofNat 32 a = BitVec.ofNat 32 b ↔ a = b := by
  refine ⟨fun h => ?_, fun h => h ▸ rfl⟩
  have := congrArg BitVec.toInt h
  rw [toInt_small ha, toInt_small hb] at this
  exact_mod_cast this

/-- The smallest position word among those at which the row equals its minimum is that of the first
    smallest place. -/
theorem masked_min {f : Fin 1024 → EReal} {k : Fin 1024} (hk : FirstMin f k) (g : Fin 1024 → BitVec 32)
    (hg : ∀ j, g j = if f j = f k then BitVec.ofNat 32 j.val else 1024#32) :
    (Finset.univ : Finset (Fin 1024)).fold IntOp.minsi 2147483647#32 g = BitVec.ofNat 32 k.val := by
  have hspec := fold_minsi_spec g Finset.univ 2147483647#32
  have hle := hspec.1 k (Finset.mem_univ _)
  rw [hg k, if_pos rfl, toInt_small (by have := k.isLt; omega)] at hle
  have kl := k.isLt
  rcases hspec.2 with h | ⟨j, -, h⟩
  · rw [h] at hle
    have : (2147483647#32 : BitVec 32).toInt = 2147483647 := by decide
    omega
  · rw [h] at hle ⊢
    rw [hg j] at hle ⊢
    split at hle
    · rename_i e
      rw [toInt_small (by have := j.isLt; omega)] at hle
      rw [if_pos e]
      refine congrArg (BitVec.ofNat 32) ?_
      by_contra hne
      have hlt : j < k := Fin.lt_def.2 (by omega)
      exact absurd e (hk.2 j hlt).ne'
    · have : (1024#32 : BitVec 32).toInt = 1024 := by decide
      omega

/-- A pair of value and position is no worse than another: smaller value, or the same value and a
    position no later. -/
def NoWorse (p q : EReal × BitVec 32) : Prop := p.1 < q.1 ∨ (p.1 = q.1 ∧ p.2.toInt ≤ q.2.toInt)

/-- A candidate is no worse than itself. -/
theorem NoWorse.refl (p : EReal × BitVec 32) : NoWorse p p := .inr ⟨rfl, le_rfl⟩

/-- No worse is transitive. -/
theorem NoWorse.trans {p q r : EReal × BitVec 32} (h : NoWorse p q) (h' : NoWorse q r) : NoWorse p r := by
  rcases h with h | ⟨e, h⟩ <;> rcases h' with h' | ⟨e', h'⟩
  · exact .inl (h.trans h')
  · exact .inl (e' ▸ h)
  · exact .inl (e ▸ h')
  · exact .inr ⟨e.trans e', h.trans h'⟩

/-- A pass over a list that at each step keeps one of two pairs, no worse than both, ends in a pair of
    the list or the start, no worse than all. -/
theorem foldl_noWorse (f : EReal × BitVec 32 → EReal × BitVec 32 → EReal × BitVec 32)
    (hf : ∀ a b, (f a b = a ∨ f a b = b) ∧ NoWorse (f a b) a ∧ NoWorse (f a b) b)
    (L : List (EReal × BitVec 32)) (z : EReal × BitVec 32) :
    (L.foldl f z = z ∨ L.foldl f z ∈ L) ∧ NoWorse (L.foldl f z) z ∧ ∀ q ∈ L, NoWorse (L.foldl f z) q := by
  induction L generalizing z with
  | nil => exact ⟨.inl rfl, .refl _, by simp⟩
  | cons a L ih =>
    obtain ⟨h1, h2, h3⟩ := ih (f z a)
    obtain ⟨g1, g2, g3⟩ := hf z a
    rw [List.foldl_cons]
    refine ⟨?_, h2.trans g2, fun q hq => ?_⟩
    · rcases h1 with h | h
      · rw [h]
        rcases g1 with g | g
        · exact .inl g
        · exact .inr (by rw [g]; exact List.mem_cons_self)
      · exact .inr (List.mem_cons_of_mem _ h)
    · rcases List.mem_cons.1 hq with rfl | hq
      · exact h2.trans g3
      · exact h3 q hq

/-- The position left by that pass over a row's pairs, started at the top value and position 0, is that
    of the first smallest place. -/
theorem pass_position {f : Fin 1024 → EReal} {k : Fin 1024} (hk : FirstMin f k) (p : EReal × BitVec 32)
    (hmem : p = (⊤, 0#32) ∨ ∃ j : Fin 1024, p = (f j, BitVec.ofNat 32 j.val))
    (hle : ∀ j : Fin 1024, NoWorse p (f j, BitVec.ofNat 32 j.val)) : p.2 = BitVec.ofNat 32 k.val := by
  have kl := k.isLt
  have h0 := hle k
  rcases hmem with rfl | ⟨j, rfl⟩
  · rcases h0 with h | ⟨e, -⟩
    · exact absurd h not_top_lt
    · dsimp only at e
      have : ¬ (⟨0, by omega⟩ : Fin 1024) < k := fun h =>
        absurd (hk.2 _ h) (by rw [← e]; exact not_top_lt)
      have hz : k.val = 0 := by
        by_contra hne
        exact this (Fin.lt_def.2 (Nat.pos_of_ne_zero hne))
      rw [hz]
  · dsimp only
    have jl := j.isLt
    rcases h0 with h | ⟨e, h⟩
    · exact absurd h (not_lt.2 (hk.1 j))
    · dsimp only at e h
      rw [toInt_small (by omega), toInt_small (by omega)] at h
      refine congrArg (BitVec.ofNat 32) ?_
      by_contra hne
      have hlt : j < k := Fin.lt_def.2 (by omega)
      exact absurd e (hk.2 j hlt).ne'

/-- One squared distance as both programs write it: the two sums of squares minus twice the inner product. -/
def distOf (u v : Fin 256 → EReal) : EReal :=
  ((∑ d, u d * u d) + ∑ d, v d * v d) - Ideal.ofBits .f32 0x40000000#32 * ∑ d, u d * v d

end Cert.Vq

end
-- ==== Proof.ArgMin.lean ====
module

public import proofs.«01_k».proof.ReferenceIdeal
public import proofs.«01_k».proof.Proof.Gen.ReferenceIdeal
public import proofs.«01_k».proof.Proof.Choice
public import Idealize.ShloMosaic.Lib.Pointwise

/-! The reference's pass for the position of a row's minimum, at any extents. -/

@[expose] public section

noncomputable section

namespace Cert.ReferenceIdeal.Vq

open Idealize.ShloMosaic Cert.ReferenceIdeal Cert.ReferenceIdeal.Gen Cert.Vq

/-- The reference's step of the pass keeps one of the two pairs, no worse than both. -/
theorem step_noWorse (a b : EReal × BitVec 32) :
    (reducer_argmin_f32_i32 (F := Ideal) a b = a ∨ reducer_argmin_f32_i32 (F := Ideal) a b = b)
      ∧ NoWorse (reducer_argmin_f32_i32 (F := Ideal) a b) a ∧ NoWorse (reducer_argmin_f32_i32 (F := Ideal) a b) b := by
  obtain ⟨a1, a2⟩ := a
  obtain ⟨b1, b2⟩ := b
  have key : reducer_argmin_f32_i32 (F := Ideal) (a1, a2) (b1, b2)
      = (if a1 < b1 then a1 else b1, if a1 < b1 ∨ (a1 = b1 ∧ a2.toInt < b2.toInt) then a2 else b2) := by
    unfold reducer_argmin_f32_i32
    by_cases h1 : a1 < b1 <;> by_cases h2 : a1 = b1 <;> by_cases h3 : a2.toInt < b2.toInt <;>
      simp [Ideal.cmpf_def, Ideal.cmp, IntOp.cmpi, IntOp.ori, IntOp.andi, Scalar.select, h1, h2, h3, BitVec.slt]
  rw [key]
  rcases lt_trichotomy a1 b1 with h | rfl | h
  · rw [if_pos h, if_pos (.inl h)]
    exact ⟨.inl rfl, .refl _, .inl h⟩
  · rw [if_neg (lt_irrefl _)]
    by_cases h3 : a2.toInt < b2.toInt
    · rw [if_pos (.inr ⟨rfl, h3⟩)]
      exact ⟨.inl rfl, .refl _, .inr ⟨rfl, h3.le⟩⟩
    · rw [if_neg (by rintro (h | h); exacts [lt_irrefl _ h, h3 h.2])]
      exact ⟨.inr rfl, .inr ⟨rfl, not_lt.1 h3⟩, .refl _⟩
  · rw [if_neg (not_lt.2 h.le), if_neg (by rintro (h' | h'); exacts [lt_asymm h h', h.ne' h'.1])]
    exact ⟨.inr rfl, .inl h, .refl _⟩

/-- The pass along the second axis of a matrix: the pair it ends in is the start or a pair of the row, and
    no worse than any pair of the row. -/
theorem pass_spec {n0 n1 : Nat} {t u : Shape} (X : FVec Ideal ⟨2, ![n0, n1]⟩ .f32) (Y : IVec ⟨2, ![n0, n1]⟩ 32)
    (z : FVec Ideal u .f32) (y : IVec u 32) (h : (⟨2, ![n0, n1]⟩ : Shape).ReducesTo [1] t) (hu : 0 < u.numel)
    (j : t.Idx) (i : Fin n0) (hi : i.val = (j ⟨0, h.lt_r2_a1_0⟩).val) :
    (Host.argReduce reducer_argmin_f32_i32 X Y z y h hu j = (z (Shape.Idx.first hu), y (Shape.Idx.first hu))
        ∨ ∃ k : Fin n1, Host.argReduce reducer_argmin_f32_i32 X Y z y h hu j = (X (ix2 i k), Y (ix2 i k)))
      ∧ ∀ k : Fin n1, NoWorse (Host.argReduce reducer_argmin_f32_i32 X Y z y h hu j) (X (ix2 i k), Y (ix2 i k)) := by
  have hrow : ∀ k : Fin n1, h.drop (ix2 i k) = j := fun k =>
    (h.fiber_r2_a1 j _).2 ⟨k, by congr 1; exact Fin.ext hi.symm⟩
  have hmem : ∀ p : EReal × BitVec 32, p ∈ Host.argReduceFiber X Y h j ↔ ∃ k : Fin n1, p = (X (ix2 i k), Y (ix2 i k)) := by
    intro p
    unfold Host.argReduceFiber
    rw [List.mem_map]
    constructor
    · rintro ⟨n, hn, rfl⟩
      have hd := of_decide_eq_true (List.mem_filter.1 hn).2
      obtain ⟨k, hk⟩ := (h.fiber_r2_a1 j _).1 hd
      refine ⟨k, ?_⟩
      have e : ix2 i k = (⟨2, ![n0, n1]⟩ : Shape).rowMajor.symm n := by
        rw [← hk]; congr 1; exact Fin.ext hi
      rw [e]
    · rintro ⟨k, rfl⟩
      refine ⟨(⟨2, ![n0, n1]⟩ : Shape).rowMajor (ix2 i k), List.mem_filter.2 ⟨List.mem_finRange _, ?_⟩, ?_⟩
      · exact decide_eq_true (by rw [Equiv.symm_apply_apply]; exact hrow k)
      · rw [Equiv.symm_apply_apply]
  rw [Ideal.argReduce_eq_reduce2, Host.reduce2_eq_foldl_fiber]
  obtain ⟨h1, -, h3⟩ := foldl_noWorse _ step_noWorse (Host.argReduceFiber X Y h j)
    (z (Shape.Idx.first hu), y (Shape.Idx.first hu))
  exact ⟨h1.imp id fun h => (hmem _).1 h, fun k => h3 _ ((hmem _).2 ⟨k, rfl⟩)⟩

/-- The position words that the pass leaves, one per row. -/
def positions {F : FTy → Type} [FloatOps F] {n0 : Nat} {t u : Shape} (X : FVec F ⟨2, ![n0, 1024]⟩ .f32)
    (Y : IVec ⟨2, ![n0, 1024]⟩ 32) (z : FVec F u .f32) (y : IVec u 32)
    (h : (⟨2, ![n0, 1024]⟩ : Shape).ReducesTo [1] t) (hu : 0 < u.numel) : IVec t 32 :=
  fun j => (Host.argReduce reducer_argmin_f32_i32 X Y z y h hu j).2

/-- The pass over a matrix whose second operand counts along the row, from the top and 0: the position of
    the row's first smallest entry. -/
theorem pass_word {n0 : Nat} {t u : Shape} (X : FVec Ideal ⟨2, ![n0, 1024]⟩ .f32) (Y : IVec ⟨2, ![n0, 1024]⟩ 32)
    (z : FVec Ideal u .f32) (y : IVec u 32) (h : (⟨2, ![n0, 1024]⟩ : Shape).ReducesTo [1] t) (hu : 0 < u.numel)
    (j : t.Idx) (i : Fin n0) (hi : i.val = (j ⟨0, h.lt_r2_a1_0⟩).val)
    (hY : ∀ k : Fin 1024, Y (ix2 i k) = BitVec.ofNat 32 k.val) (hz : z (Shape.Idx.first hu) = ⊤)
    (hy : y (Shape.Idx.first hu) = 0#32) (f : Fin 1024 → EReal) (hf : ∀ k, X (ix2 i k) = f k) (k : Fin 1024)
    (hk : FirstMin f k) :
    positions X Y z y h hu j = BitVec.ofNat 32 k.val := by
  have hs := pass_spec X Y z y h hu j i hi
  simp only [hY, hf, hz, hy] at hs
  exact pass_position hk _ hs.1 hs.2

end Cert.ReferenceIdeal.Vq

end
-- ==== Proof.RefRun.lean ====
module

public import proofs.«01_k».proof.Defs
public import proofs.«01_k».proof.Proof.Gen.ReferenceIdeal
public import proofs.«01_k».proof.Proof.ArgMin
public import Idealize.ShloMosaic.Lib.Tactic
public import Idealize.ShloMosaic.Lib.Claim
public import Idealize.ShloMosaic.Lib.StableHlo

/-! The reference: what each of its stages computes, named, and its run. -/

@[expose] public section

set_option maxRecDepth 100000

noncomputable section

namespace Cert.ReferenceIdeal.Vq

open Idealize.ShloMosaic Idealize.SL.Sem Cert.ReferenceIdeal Cert.ReferenceIdeal.Gen

variable {F : FTy → Type} [FloatOps F]

/-- The input as 32768 rows of 256 numbers. -/
def flat (x : FVec F S32x1024x256 .f32) : FVec F S32768x256 .f32 :=
  shapeCast S32768x256 x shapeCasts_S32x1024x256_S32768x256

/-- Row sums of squares plus code sums of squares minus twice the inner products. -/
def distances (x : FVec F S32x1024x256 .f32) (w : FVec F S1024x256 .f32) : FVec F S32768x1024 .f32 :=
  subf
    (addf
      (broadcastInDim S32768x1024 ![0, 1] bcast_S32768x1_S32768x1024_0_1
        (broadcastInDim S32768x1 ![0] bcast_S32768_S32768x1_0
          (Host.reduceAdd (mulf (flat x) (flat x)) (constant S_ .f32 0x00000000#32) reducesTo_S32768x256_S32768_d1 h_S_)))
      (broadcastInDim S32768x1024 ![0, 1] bcast_S1x1024_S32768x1024_0_1
        (broadcastInDim S1x1024 ![1] bcast_S1024_S1x1024_1
          (Host.reduceAdd (mulf w w) (constant S_ .f32 0x00000000#32) reducesTo_S1024x256_S1024_d1 h_S_))))
    (mulf (broadcastInDim S32768x1024 ![] bcast_S_S32768x1024 (constant S_ .f32 0x40000000#32))
      (Host.dotGeneral dot_S32768x256_S256x1024_S32768x1024_1_0_0_1_n_n none (flat x)
        (transpose S256x1024 [1, 0] w transposes_S1024x256_S256x1024_1_0)))

/-- The place of the first smallest distance of each row, as a word. -/
def nearest (x : FVec F S32x1024x256 .f32) (w : FVec F S1024x256 .f32) : IVec S32768 32 :=
  positions (distances x w) (iotaInDim S32768x1024 32 1) (constant S_ .f32 0x7F800000#32) (constantI S_ 32 0#32)
    reducesTo_S32768x1024_S32768_d1 h_S_

/-- The indicator rows of given position words. -/
def indicators (v : IVec S32768 32) : FVec F S32768x1024 .f32 :=
  uitofp .f32 (cmpi .eq
    (broadcastInDim S32768x1024 ![0, 1] bcast_S32768x1_S32768x1024_0_1
      (broadcastInDim S32768x1 ![0] bcast_S32768_S32768x1_0 v))
    (broadcastInDim S32768x1024 ![0, 1] bcast_S1x1024_S32768x1024_0_1 (iotaInDim S1x1024 32 1)))

/-- The rows' indicators: 1 at the nearest code, 0 elsewhere. -/
def codes (x : FVec F S32x1024x256 .f32) (w : FVec F S1024x256 .f32) : FVec F S32768x1024 .f32 :=
  indicators (nearest x w)

/-- The chosen codes, in the input's shape, minus the input. -/
def errors (x : FVec F S32x1024x256 .f32) (w : FVec F S1024x256 .f32) : FVec F S32x1024x256 .f32 :=
  subf (shapeCast S32x1024x256
    (Host.dotGeneral dot_S32768x1024_S1024x256_S32768x256_1_0_0_1_n_n none (codes x w) w)
    shapeCasts_S32768x256_S32x1024x256) x

/-- The mean squared error. -/
def meanSq (x : FVec F S32x1024x256 .f32) (w : FVec F S1024x256 .f32) : FVec F S_ .f32 :=
  Host.divf (Host.reduceAdd (mulf (errors x w) (errors x w)) (constant S_ .f32 0x00000000#32)
    reducesTo_S32x1024x256_S_d0_1_2 h_S_) (constant S_ .f32 0x4B000000#32)

/-- First result: the mean squared error plus a quarter of it. -/
def loss (x : FVec F S32x1024x256 .f32) (w : FVec F S1024x256 .f32) : FVec F S_ .f32 :=
  addf (meanSq x w) (mulf (constant S_ .f32 0x3E800000#32) (meanSq x w))

/-- Second result: the input plus the error. -/
def quantized (x : FVec F S32x1024x256 .f32) (w : FVec F S1024x256 .f32) : FVec F S32x1024x256 .f32 :=
  addf x (errors x w)

/-- How often each code is chosen, divided by the number of rows. -/
def shares (x : FVec F S32x1024x256 .f32) (w : FVec F S1024x256 .f32) : FVec F S1024 .f32 :=
  Host.divf (Host.reduceAdd (codes x w) (constant S_ .f32 0x00000000#32) reducesTo_S32768x1024_S1024_d0 h_S_)
    (broadcastInDim S1024 ![] bcast_S_S1024 (constant S_ .f32 0x47000000#32))

/-- Third result: the exponential of the shares' entropy. -/
def perplexity (x : FVec F S32x1024x256 .f32) (w : FVec F S1024x256 .f32) : FVec F S_ .f32 :=
  Host.exp (Host.negf (Host.reduceAdd
    (mulf (shares x w) (Host.log (addf (shares x w)
      (broadcastInDim S1024 ![] bcast_S_S1024 (constant S_ .f32 0x2EDBE6FF#32)))))
    (constant S_ .f32 0x00000000#32) reducesTo_S1024_S_d0 h_S_))

/-- The reference's run: its four results are the functions above of its two arguments. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v28)
          = loss (F := Ideal) (m ((c.tc : Thread nD τ).loc main_arg0)) (m ((c.tc : Thread nD τ).loc main_arg1))
      ∧ r.2.mem ((c.tc : Thread nD τ).loc main_v30)
          = quantized (F := Ideal) (m ((c.tc : Thread nD τ).loc main_arg0)) (m ((c.tc : Thread nD τ).loc main_arg1))
      ∧ r.2.mem ((c.tc : Thread nD τ).loc main_v40)
          = perplexity (F := Ideal) (m ((c.tc : Thread nD τ).loc main_arg0)) (m ((c.tc : Thread nD τ).loc main_arg1))
      ∧ r.2.mem ((c.tc : Thread nD τ).loc main_v16)
          = codes (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  all_goals
    simp -implicitDefEqProofs only [StableHlo.TRef.toBuf, StableHlo.TRef.ofBuf, cast_cast, cast_eq]
    rfl

/-- The reference keeps its arguments and leaves every semaphore at zero. -/
theorem frame : Cert.quiescent_ReferenceIdeal := fun m g _ =>
  θ_run_mono (run m g) fun r h =>
    ⟨fun c => (h c).2.2.2.2, sem_eq_zero_of_no_sems (by decide) r.2⟩

end Cert.ReferenceIdeal.Vq

end
-- ==== Proof.Payloads.lean ====
module

public import proofs.«01_k».proof.Proof.Gen.KernelIdeal.Skeleton
public import proofs.«01_k».proof.Proof.Choice
public import Idealize.ShloMosaic.Lib.Pointwise

/-! What the two kernels' bodies store, read at an index over the extended reals. -/

@[expose] public section

set_option maxRecDepth 16384

noncomputable section

namespace Cert.KernelIdeal.Vq

open Idealize.ShloMosaic Cert.KernelIdeal Cert.KernelIdeal.Gen Cert.Vq

/-- The first kernel's first output: each code's sum of squares. -/
theorem pay_norms (w : Vec Ideal S1024x256 .f32) (k : Fin 1024) :
    k0_pay1 w (ix2 0 k) = ∑ d, w (ix2 k d) * w (ix2 k d) := by
  pointwise [k0_pay1]

/-- The first kernel's second output: the codes themselves. -/
theorem pay_copy (w : Vec Ideal S1024x256 .f32) (k : Fin 1024) (d : Fin 256) :
    k0_pay2 w (ix2 k d) = w (ix2 k d) := by
  pointwise [k0_pay2]

/-- The distances of a block of rows. -/
theorem pay_dist (x : Vec Ideal S2048x256 .f32) (w : Vec Ideal S1024x256 .bf16) (n : Vec Ideal S1x1024 .f32)
    (hn : ∀ k, n (ix2 0 k) = ∑ d, w (ix2 k d) * w (ix2 k d)) (r : Fin 2048) (k : Fin 1024) :
    k1_pay9 x w n (ix2 r k) = distOf (fun d => x (ix2 r d)) (fun d => w (ix2 k d)) := by
  pointwise [k1_pay9, k1_pay8, distOf, hn]

/-- Each row's smallest distance. -/
theorem pay_min (x : Vec Ideal S2048x256 .f32) (w : Vec Ideal S1024x256 .bf16) (n : Vec Ideal S1x1024 .f32)
    (hn : ∀ k, n (ix2 0 k) = ∑ d, w (ix2 k d) * w (ix2 k d)) (r : Fin 2048) (k : Fin 1024)
    (hk : FirstMin (fun k => distOf (fun d => x (ix2 r d)) (fun d => w (ix2 k d))) k) :
    k1_pay10 x w n (ix2 r 0) = distOf (fun d => x (ix2 r d)) (fun d => w (ix2 k d)) := by
  have h := fold_min_eq hk
  simp only [← pay_dist x w n hn r] at h ⊢
  pointwise [k1_pay10]
  exact h

/-- Each row's indicator of its nearest code. -/
theorem pay_hot (x : Vec Ideal S2048x256 .f32) (w : Vec Ideal S1024x256 .bf16) (n : Vec Ideal S1x1024 .f32)
    (hn : ∀ k, n (ix2 0 k) = ∑ d, w (ix2 k d) * w (ix2 k d)) (r : Fin 2048) (k : Fin 1024) :
    k1_pay11 x w n (ix2 r k) = hot (fun k => distOf (fun d => x (ix2 r d)) (fun d => w (ix2 k d))) k := by
  obtain ⟨b, hb⟩ := FirstMin.exists (n := 1023) (fun k => distOf (fun d => x (ix2 r d)) (fun d => w (ix2 k d)))
  have hmin := pay_min x w n hn r b hb
  have hd := pay_dist x w n hn r
  have e : (BitVec.ofNat 32 k.val = BitVec.ofNat 32 b.val) ↔ b = k :=
    (ofNat_inj (by omega) (by omega)).trans (Fin.ext_iff.symm.trans eq_comm)
  have hw := masked_min hb (fun j => if k1_pay9 x w n (ix2 r j) = k1_pay10 x w n (ix2 r 0)
    then BitVec.ofNat 32 j.val else 1024#32) (fun j => by rw [hmin, hd j])
  pointwise [k1_pay11]
  rw [hw, hot_eq hb]
  show (((BitVec.setWidth 32 (IntOp.cmpi CmpIPredicate.eq (BitVec.ofNat 32 k.val) (BitVec.ofNat 32 b.val))).toInt : ℝ)
    : EReal) = _
  simp only [IntOp.cmpi]
  by_cases hbk : b = k
  · simp [hbk]
  · have hne : (BitVec.ofNat 32 k.val == BitVec.ofNat 32 b.val) = false := beq_eq_false_iff_ne.2 (mt e.1 hbk)
    simp [hne, hbk]

/-- The block of second results: the row plus the difference of its code and itself. -/
theorem pay_quant (x : Vec Ideal S2048x256 .f32) (w : Vec Ideal S1024x256 .bf16) (n : Vec Ideal S1x1024 .f32)
    (r : Fin 2048) (d : Fin 256) :
    k1_pay12 x w n w (ix2 r d)
      = x (ix2 r d) + ((∑ k, k1_pay11 x w n (ix2 r k) * w (ix2 k d)) - x (ix2 r d)) := by
  pointwise [k1_pay12, k1_pay8]

/-- A block's sum of smallest distances. -/
theorem pay_sum (mn : FVec Ideal S2048x1 .f32) : k1_pay1 mn = ∑ r : Fin 2048, mn (ix2 r 0) := by
  pointwise [k1_pay1]
  simp

/-- A block's count of choices of a code. -/
theorem pay_count (e : FVec Ideal S2048x1024 .f32) (k : Fin 1024) :
    k1_pay2 e (ix2 0 k) = ∑ r : Fin 2048, e (ix2 r k) := by
  pointwise [k1_pay2]

/-- The counts of the first block, entry by entry: the sum of a column of its one-hot rows. -/
theorem pay_count_first (e : FVec Ideal S2048x1024 .f32) (k : Fin 1024) :
    k1_pay3 e (ix2 0 k) = ∑ r : Fin 2048, e (ix2 r k) := by
  pointwise [k1_pay3, pay_count]

/-- The counts after a later block, entry by entry: what was carried plus the sum of a column of its one-hot rows. -/
theorem pay_count_later (e : FVec Ideal S2048x1024 .f32) (n : Vec Ideal S1x1024 .f32) (k : Fin 1024) :
    k1_pay5 e n (ix2 0 k) = n (ix2 0 k) + ∑ r : Fin 2048, e (ix2 r k) := by
  pointwise [k1_pay5, pay_count]

/-- The exponential of the entropy of the counts divided by the number of rows. -/
theorem pay_perplexity (n : Vec Ideal S1x1024 .f32) :
    k1_pay7 n (ix2 0 0)
      = Ideal.exp (0 - ∑ k : Fin 1024, (Ideal.div (n (ix2 0 k)) (Ideal.ofBits .f32 0x47000000#32))
          * Ideal.log (Ideal.div (n (ix2 0 k)) (Ideal.ofBits .f32 0x47000000#32) + Ideal.ofBits .f32 0x2EDBE6FF#32)) := by
  pointwise [k1_pay7]
  simp only [Finset.univ_unique, Finset.sum_singleton]
  rfl

/-- The last step's first result: 1.25 times the sum, divided by the number of entries. -/
theorem pay_loss (s : Elt Ideal .f32) :
    k1_pay6 s (ix2 0 0) = Ideal.div (Ideal.ofBits .f32 0x3FA00000#32 * s) (Ideal.ofBits .f32 0x4B000000#32) := by
  pointwise [k1_pay6]

end Cert.KernelIdeal.Vq

end
-- ==== Proof.RefValues.lean ====
module

public import proofs.«01_k».proof.Proof.RefRun
public import proofs.«01_k».proof.Proof.Choice
public import proofs.«01_k».proof.Proof.ArgMin
public import Idealize.ShloMosaic.Lib.Pointwise

/-! The reference's stages read at an index. -/

@[expose] public section

set_option maxRecDepth 16384

noncomputable section

namespace Cert.ReferenceIdeal.Vq

open Idealize.ShloMosaic Cert.ReferenceIdeal Cert.ReferenceIdeal.Gen Cert.Vq

/-- Row `i` of the input, its first two axes counted together. -/
def rowOf (x : FVec Ideal S32x1024x256 .f32) (i : Fin 32768) (d : Fin 256) : EReal :=
  x (ix3 ⟨i.val / 1024, by omega⟩ ⟨i.val % 1024, by omega⟩ d)

/-- Code `k`. -/
def codeOf (w : FVec Ideal S1024x256 .f32) (k : Fin 1024) (d : Fin 256) : EReal := w (ix2 k d)

/-- The flattened input, entry by entry. -/
theorem flat_ix (x : FVec Ideal S32x1024x256 .f32) (i : Fin 32768) (d : Fin 256) :
    flat x (ix2 i d) = rowOf x i d := by
  pointwise [flat, rowOf]

/-- The reference's distances, entry by entry. -/
theorem distances_ix (x : FVec Ideal S32x1024x256 .f32) (w : FVec Ideal S1024x256 .f32) (i : Fin 32768)
    (k : Fin 1024) : distances x w (ix2 i k) = distOf (rowOf x i) (codeOf w k) := by
  pointwise [distances, distOf, flat_ix, codeOf]

/-- The distances of row `i` to the codes. -/
def distRow (x : FVec Ideal S32x1024x256 .f32) (w : FVec Ideal S1024x256 .f32) (i : Fin 32768) (k : Fin 1024) : EReal :=
  distOf (rowOf x i) (codeOf w k)

/-- The indicator rows at an index. -/
theorem indicators_ix (v : IVec S32768 32) (i : Fin 32768) (k b : Fin 1024) (h : v (ix1 i) = BitVec.ofNat 32 b.val) :
    indicators (F := Ideal) v (ix2 i k) = if b = k then 1 else 0 := by
  have e : (BitVec.ofNat 32 b.val = BitVec.ofNat 32 k.val) ↔ b = k :=
    (ofNat_inj (by omega) (by omega)).trans Fin.ext_iff.symm
  pointwise [indicators, h]
  show (((IntOp.cmpi CmpIPredicate.eq (BitVec.ofNat 32 b.val) (BitVec.ofNat 32 k.val)).toNat : ℝ) : EReal) = _
  simp only [IntOp.cmpi]
  split <;> rename_i hbk <;> simp [e, hbk]

/-- The nearest code's word is the position of the first smallest distance. -/
theorem nearest_ix (x : FVec Ideal S32x1024x256 .f32) (w : FVec Ideal S1024x256 .f32) (i : Fin 32768)
    (k : Fin 1024) (hk : FirstMin (distRow x w i) k) : nearest x w (ix1 i) = BitVec.ofNat 32 k.val := by
  have h0 : constant (F := Ideal) S_ .f32 0x7F800000#32 (Shape.Idx.first h_S_) = ⊤ := by
    show Ideal.ofBits .f32 0x7F800000#32 = ⊤
    simp [Ideal.ofBits, Ideal.ieee]
  have hY : ∀ k : Fin 1024, iotaInDim S32768x1024 32 1 (ix2 i k) = BitVec.ofNat 32 k.val := fun k => by pointwise
  have := pass_word (distances x w) (iotaInDim S32768x1024 32 1) (constant (F := Ideal) S_ .f32 0x7F800000#32)
    (constantI S_ 32 0#32) reducesTo_S32768x1024_S32768_d1 h_S_ (ix1 i) i rfl hY h0 rfl (distRow x w i)
    (distances_ix x w i) k hk
  exact this

/-- The indicators: 1 at the first smallest distance. -/
theorem codes_ix (x : FVec Ideal S32x1024x256 .f32) (w : FVec Ideal S1024x256 .f32) (i : Fin 32768)
    (k : Fin 1024) : codes x w (ix2 i k) = hot (distRow x w i) k := by
  obtain ⟨b, hb⟩ := FirstMin.exists (n := 1023) (distRow x w i)
  unfold codes
  rw [indicators_ix _ i k b (nearest_ix x w i b hb), hot_eq hb]

/-- The reference's squared errors, entry by entry. -/
theorem errors_ix (x : FVec Ideal S32x1024x256 .f32) (w : FVec Ideal S1024x256 .f32) (a : Fin 32) (b : Fin 1024)
    (d : Fin 256) : errors x w (ix3 a b d)
      = (∑ k, hot (distRow x w ⟨a.val * 1024 + b.val, by omega⟩) k * codeOf w k d) - x (ix3 a b d) := by
  pointwise [errors, codes_ix, codeOf]

/-- The reference's mean squared error. -/
theorem meanSq_ix (x : FVec Ideal S32x1024x256 .f32) (w : FVec Ideal S1024x256 .f32) :
    meanSq x w ix0 = Ideal.div (∑ a : Fin 32, ∑ b : Fin 1024, ∑ d : Fin 256, errors x w (ix3 a b d) * errors x w (ix3 a b d))
      (Ideal.ofBits .f32 0x4B000000#32) := by
  pointwise [meanSq]

/-- The reference's loss. -/
theorem loss_ix (x : FVec Ideal S32x1024x256 .f32) (w : FVec Ideal S1024x256 .f32) :
    loss x w ix0 = meanSq x w ix0 + Ideal.ofBits .f32 0x3E800000#32 * meanSq x w ix0 := by
  pointwise [loss]

/-- The reference's quantized input, entry by entry. -/
theorem quantized_ix (x : FVec Ideal S32x1024x256 .f32) (w : FVec Ideal S1024x256 .f32) (a : Fin 32) (b : Fin 1024)
    (d : Fin 256) : quantized x w (ix3 a b d) = x (ix3 a b d) + errors x w (ix3 a b d) := by
  pointwise [quantized]

/-- The reference's share of rows that choose entry `k` of the codebook. -/
theorem shares_ix (x : FVec Ideal S32x1024x256 .f32) (w : FVec Ideal S1024x256 .f32) (k : Fin 1024) :
    shares x w (ix1 k) = Ideal.div (∑ i : Fin 32768, hot (distRow x w i) k) (Ideal.ofBits .f32 0x47000000#32) := by
  pointwise [shares, codes_ix]

/-- The reference's perplexity. -/
theorem perplexity_ix (x : FVec Ideal S32x1024x256 .f32) (w : FVec Ideal S1024x256 .f32) :
    perplexity x w ix0 = Ideal.exp (- ∑ k : Fin 1024, shares x w (ix1 k)
      * Ideal.log (shares x w (ix1 k) + Ideal.ofBits .f32 0x2EDBE6FF#32)) := by
  pointwise [perplexity]

end Cert.ReferenceIdeal.Vq

end
-- ==== Proof.Arrays.lean ====
module

public import proofs.«01_k».proof.Proof.Run
public import proofs.«01_k».proof.Proof.Payloads
public import proofs.«01_k».proof.Proof.RefValues
public import Idealize.ShloMosaic.Lib.Pipeline.ValueKit

/-! The arrays that the two calls and the reshapes around them leave, over the extended reals. -/

@[expose] public section

set_option maxRecDepth 16384

noncomputable section

namespace Cert.KernelIdeal.Vq

open Idealize.ShloMosaic Idealize.ShloMosaic.TcCoe Idealize.ShloMosaic.Pipeline Cert.KernelIdeal Cert.KernelIdeal.Gen Cert.Vq
open Cert.ReferenceIdeal.Vq (rowOf codeOf distRow)

variable (m : (l : Loc nD τ sig) → Buf (Elt Ideal) l) (ρ : Dev nD → PrngReg)

/-- The input. -/
abbrev inX (c : Dev nD) : FVec Ideal S32x1024x256 .f32 := m ((c : Thread nD τ).loc main_arg0)
/-- The codebook. -/
abbrev inW (c : Dev nD) : FVec Ideal S1024x256 .f32 := m ((c : Thread nD τ).loc main_arg1)

/-- The first reshape's result: the input's rows. -/
theorem rows_in (c : Dev nD) (i : Fin 32768) (d : Fin 256) :
    (V2 m ρ c main_v0 : FVec Ideal S32768x256 .f32) (ix2 i d) = rowOf (inX m c) i d := by
  have e : V2 m ρ c main_v0 = shapeCast S32768x256 (inX m c) shapeCasts_S32x1024x256_S32768x256 :=
    (W2_of m ρ c main_v0 (by decide)).trans rfl
  rw [e]
  pointwise [rowOf]

/-- The codebook as the first call's block. -/
theorem prep_block (c : Dev nD) (t : Fin cfg0.N) (k : Fin 1024) (d : Fin 256) :
    prepBlk (V1 m ρ) c 0 t (ix2 k d) = codeOf (inW m c) k d := by
  have e : V1 m ρ c main_arg1 = inW m c := W1_args m ρ c main_arg1 (by decide)
  unfold prepBlk codeOf
  rw [← e]
  have idx : ∀ t : Fin cfg0.N, win0_0.index t = ![0, 0] := (by decide +kernel : ∀ t : Fin grid0.N, _)
  blk_ext [idx]

/-- The norms that the first call leaves. -/
theorem norms_in (c : Dev nD) (k : Fin 1024) :
    (V2 m ρ c main_call0_v0_0 : FVec Ideal S1x1024 .f32) (ix2 0 k)
      = ∑ d, codeOf (inW m c) k d * codeOf (inW m c) k d := by
  have e : V2 m ρ c main_call0_v0_0 = fun i : S1x1024.Idx => ∑ d, codeOf (inW m c) (i 1) d * codeOf (inW m c) (i 1) d := by
    refine (W2_arr m ρ c 1).trans ?_
    refine (prepDat (V1 m ρ) c).arrAt_eq_of_after_last 1 t0_0 (by decide +kernel) _ fun j => ?_
    blk_simp
    rw [prep_after_1]
    obtain ⟨k, rfl⟩ : ∃ k : Fin 1024, j = ix2 0 k := ⟨j 1, by ext a; match a with | 0 => have := (j 0).isLt; exact Nat.lt_one_iff.1 this | 1 => rfl⟩
    simp only [pay_norms, prep_block]
    rfl
  rw [e]
  rfl

/-- The copy of the codebook that the first call leaves. -/
theorem codes_in (c : Dev nD) (k : Fin 1024) (d : Fin 256) :
    (V2 m ρ c main_call0_v0_1 : FVec Ideal S1024x256 .bf16) (ix2 k d) = codeOf (inW m c) k d := by
  have e : V2 m ρ c main_call0_v0_1 = inW m c := by
    refine (W2_arr m ρ c 2).trans ?_
    refine (prepDat (V1 m ρ) c).arrAt_eq_of_after_last 2 t0_0 (by decide +kernel) _ fun j => ?_
    blk_simp
    rw [prep_after_2]
    obtain ⟨k, d, rfl⟩ : ∃ (k : Fin 1024) (d : Fin 256), j = ix2 k d := ⟨j 0, j 1, by ext a; match a with | 0 => rfl | 1 => rfl⟩
    simp only [pay_copy, prep_block]
    rfl
  rw [e]
  rfl

/-- The second call's block of rows. -/
theorem block_rows (c : Dev nD) (t : Fin cfg1.N) (r : Fin 2048) (d : Fin 256) :
    vqBlk (V2 m ρ) c 0 t (ix2 r d)
      = rowOf (inX m c) ⟨t.val * 2048 + r.val, by have := t.isLt; have : cfg1.N = 16 := N_1; omega⟩ d := by
  rw [← rows_in m ρ]
  have idx : ∀ t : Fin cfg1.N, win1_0.index t = ![t.val, 0] := (by decide +kernel : ∀ t : Fin grid1.N, _)
  unfold vqBlk
  blk_ext [idx]

/-- The second call's block of norms. -/
theorem block_norms (c : Dev nD) (t : Fin cfg1.N) (k : Fin 1024) :
    vqBlk (V2 m ρ) c 1 t (ix2 0 k) = ∑ d, codeOf (inW m c) k d * codeOf (inW m c) k d := by
  rw [← norms_in m ρ]
  have idx : ∀ t : Fin cfg1.N, win1_1.index t = ![0, 0] := (by decide +kernel : ∀ t : Fin grid1.N, _)
  unfold vqBlk
  blk_ext [idx]

/-- The second call's block of codes. -/
theorem block_codes (c : Dev nD) (t : Fin cfg1.N) (k : Fin 1024) (d : Fin 256) :
    vqBlk (V2 m ρ) c 2 t (ix2 k d) = codeOf (inW m c) k d := by
  rw [← codes_in m ρ]
  have idx : ∀ t : Fin cfg1.N, win1_2.index t = ![0, 0] := (by decide +kernel : ∀ t : Fin grid1.N, _)
  unfold vqBlk
  blk_ext [idx]

/-- The smallest value of a row. -/
def leastOf (f : Fin 1024 → EReal) : EReal := Finset.univ.fold min ⊤ f

/-- Row `r` of block `t` in the whole input. -/
abbrev rowAt (t : Fin cfg1.N) (r : Fin 2048) : Fin 32768 :=
  ⟨t.val * 2048 + r.val, by have := t.isLt; have : cfg1.N = 16 := N_1; omega⟩

/-- The rows of block `t`. -/
abbrev blkX (c : Dev nD) (t : Fin cfg1.N) : Vec Ideal S2048x256 .f32 := vqBlk (V2 m ρ) c 0 t
/-- The codes at block `t`. -/
abbrev blkW (c : Dev nD) (t : Fin cfg1.N) : Vec Ideal S1024x256 .bf16 := vqBlk (V2 m ρ) c 2 t
/-- The norms at block `t`. -/
abbrev blkN (c : Dev nD) (t : Fin cfg1.N) : Vec Ideal S1x1024 .f32 := vqBlk (V2 m ρ) c 1 t

/-- The norms' block belongs to the codes' block. -/
theorem block_norms_codes (c : Dev nD) (t : Fin cfg1.N) (k : Fin 1024) :
    blkN m ρ c t (ix2 0 k) = ∑ d, blkW m ρ c t (ix2 k d) * blkW m ρ c t (ix2 k d) := by
  have h : ∀ d, blkW m ρ c t (ix2 k d) = codeOf (inW m c) k d := block_codes m ρ c t k
  simp only [h]
  exact block_norms m ρ c t k

/-- The distances of a block's row to the codes. -/
theorem block_dist (c : Dev nD) (t : Fin cfg1.N) (r : Fin 2048) :
    (fun k : Fin 1024 => distOf (fun d : Fin 256 => blkX m ρ c t (ix2 r d))
      (fun d => blkW m ρ c t (ix2 k d)))
      = distRow (inX m c) (inW m c) (rowAt t r) := by
  funext k
  unfold distRow
  congr 1 <;> funext d
  · exact block_rows m ρ c t r d
  · exact block_codes m ρ c t k d

/-- The one-hot rows of a block. -/
theorem block_hot (c : Dev nD) (t : Fin cfg1.N) (r : Fin 2048) (k : Fin 1024) :
    encAt (V2 m ρ) c t (ix2 r k) = hot (distRow (inX m c) (inW m c) (rowAt t r)) k :=
  (pay_hot _ _ _ (block_norms_codes m ρ c t) r k).trans (by rw [block_dist])

/-- The smallest distances of a block. -/
theorem block_least (c : Dev nD) (t : Fin cfg1.N) (r : Fin 2048) :
    minAt (V2 m ρ) c t (ix2 r 0) = leastOf (distRow (inX m c) (inW m c) (rowAt t r)) := by
  obtain ⟨k, hk⟩ := FirstMin.exists (n := 1023) (distRow (inX m c) (inW m c) (rowAt t r))
  have hd := block_dist m ρ c t r
  refine (pay_min _ _ _ (block_norms_codes m ρ c t) r k (hd.symm ▸ hk)).trans ?_
  rw [leastOf, fold_min_eq hk]
  exact congrFun hd k

/-- The quantized rows of a block. -/
theorem block_quant (c : Dev nD) (t : Fin cfg1.N) (r : Fin 2048) (d : Fin 256) :
    quantAt (V2 m ρ) c t (ix2 r d) = rowOf (inX m c) (rowAt t r) d
      + ((∑ k, hot (distRow (inX m c) (inW m c) (rowAt t r)) k * codeOf (inW m c) k d) - rowOf (inX m c) (rowAt t r) d) := by
  refine (pay_quant _ _ _ r d).trans ?_
  have h : ∀ k, k1_pay11 (vqBlk (V2 m ρ) c 0 t) (vqBlk (V2 m ρ) c 2 t) (vqBlk (V2 m ρ) c 1 t) (ix2 r k) = _ :=
    block_hot m ρ c t r
  have hx := block_rows m ρ c t r d
  have hw := fun k => block_codes m ρ c t k d
  simp only [h, hx, hw]

/-- The carried sum after point `n` is the sum over the points so far. -/
theorem sum_so_far (c : Dev nD) : ∀ (n : ℕ) (h : n < cfg1.N), sumAt (V2 m ρ) c n h (ix2 0 0)
    = ∑ t : Fin (n + 1), ∑ r : Fin 2048, minAt (V2 m ρ) c ⟨t.val, by omega⟩ (ix2 r 0)
  | 0, h => by
    rw [Fin.sum_univ_one]
    exact pay_sum _
  | n + 1, h => by
    rw [Fin.sum_univ_castSucc]
    refine Eq.trans ?_ (congrArg₂ (· + ·) (sum_so_far c n (by omega)) rfl)
    exact congrArg₂ (· + ·) (congrArg _ (funext fun a => Fin.ext (by have := a.isLt; match a with | 0 => rfl | 1 => rfl))) (pay_sum _)

/-- The carried counts after point `n` are the sums over the points so far. -/
theorem counts_so_far (c : Dev nD) (k : Fin 1024) : ∀ (n : ℕ) (h : n < cfg1.N), cntAt (V2 m ρ) c n h (ix2 0 k)
    = ∑ t : Fin (n + 1), ∑ r : Fin 2048, encAt (V2 m ρ) c ⟨t.val, by omega⟩ (ix2 r k)
  | 0, h => by
    rw [Fin.sum_univ_one]
    exact pay_count_first _ k
  | n + 1, h => by
    rw [Fin.sum_univ_castSucc]
    exact (pay_count_later _ _ k).trans (congrArg₂ (· + ·) (counts_so_far c k n (by omega)) rfl)

/-- The last point of the second call. -/
theorem last_lt : 15 < cfg1.N := by rw [show cfg1.N = 16 from N_1]; decide

/-- The sum after the last point: the smallest distances of all rows. -/
theorem sum_all (c : Dev nD) : sumAt (V2 m ρ) c 15 last_lt (ix2 0 0)
    = ∑ i : Fin 32768, leastOf (distRow (inX m c) (inW m c) i) :=
  (sum_so_far m ρ c 15 last_lt).trans (Fin.sum_mul_add_congr fun t r _ => block_least m ρ c ⟨t.val, _⟩ r)

/-- The counts after the last point: how often each code is chosen. -/
theorem counts_all (c : Dev nD) (k : Fin 1024) : cntAt (V2 m ρ) c 15 last_lt (ix2 0 k)
    = ∑ i : Fin 32768, hot (distRow (inX m c) (inW m c) i) k :=
  (counts_so_far m ρ c k 15 last_lt).trans (Fin.sum_mul_add_congr fun t r _ => block_hot m ρ c ⟨t.val, _⟩ r k)

/-- An index of a rank-2 array by its coordinates. -/
theorem ix2_of {a b : ℕ} (j : Shape.Idx ⟨2, ![a, b]⟩) : ∃ (p : Fin a) (q : Fin b), j = ix2 p q :=
  ⟨j 0, j 1, by ext e; match e with | 0 => rfl | 1 => rfl⟩

/-- The one-hot result. -/
theorem out_codes (c : Dev nD) : V3 m ρ c main_v1_0 = Cert.ReferenceIdeal.Vq.codes (inX m c) (inW m c) := by
  refine (W3_arr m ρ c 3).trans ?_
  have idx : ∀ t : Fin cfg1.N, win1_3.index t = ![t.val, 0] := (by decide +kernel : ∀ t : Fin grid1.N, _)
  refine (vqDat (V2 m ρ) c).arrAt_eq_of_covers 3 _ (by decide +kernel) fun t hf y => ?_
  blk_simp
  rw [vq_after_3]
  obtain ⟨r, k, rfl⟩ : ∃ (r : Fin 2048) (k : Fin 1024), y = ix2 r k := ix2_of y
  refine (block_hot m ρ c t r k).trans ((Cert.ReferenceIdeal.Vq.codes_ix _ _ _ _).symm.trans ?_)
  blk_ext [idx]

/-- The quantized rows before the last reshape. -/
theorem out_rows (c : Dev nD) : V3 m ρ c main_v1_1 = (fun i : S32768x256.Idx => rowOf (inX m c) (i 0) (i 1)
      + ((∑ k, hot (distRow (inX m c) (inW m c) (i 0)) k * codeOf (inW m c) k (i 1)) - rowOf (inX m c) (i 0) (i 1))) := by
  refine (W3_arr m ρ c 4).trans ?_
  have idx : ∀ t : Fin cfg1.N, win1_4.index t = ![t.val, 0] := (by decide +kernel : ∀ t : Fin grid1.N, _)
  refine (vqDat (V2 m ρ) c).arrAt_eq_of_covers 4 _ (by decide +kernel) fun t hf y => ?_
  blk_simp
  rw [vq_after_4]
  obtain ⟨r, d, rfl⟩ : ∃ (r : Fin 2048) (d : Fin 256), y = ix2 r d := ix2_of y
  have e : (win1_4.blk t).view.emb (ix2 r d) = ix2 (rowAt t r) d := by blk_ext [idx]
  rw [e]
  exact block_quant m ρ c t r d

/-- The loss before the last reshape. -/
theorem out_loss (c : Dev nD) : V3 m ρ c main_v1_2 = fun _ => Ideal.div (Ideal.ofBits .f32 0x3FA00000#32
    * ∑ i : Fin 32768, leastOf (distRow (inX m c) (inW m c) i)) (Ideal.ofBits .f32 0x4B000000#32) := by
  refine (W3_arr m ρ c 5).trans ?_
  refine (vqDat (V2 m ρ) c).arrAt_eq_of_after_last 5 t1_15 (by decide +kernel) _ fun j => ?_
  blk_simp
  rw [vq_after_5, ← sum_all m ρ]
  obtain ⟨p, q, rfl⟩ := ix2_of j
  obtain rfl : p = 0 := Subsingleton.elim _ _
  obtain rfl : q = 0 := Subsingleton.elim _ _
  refine (pay_loss _).trans ?_
  have e : Shape.Idx.first (s := S1x1) (by decide) = ix2 0 0 := by
    ext a; match a with | 0 => rfl | 1 => rfl
  exact congrArg (fun i => Ideal.div (Ideal.ofBits FTy.f32 0x3FA00000#32 * sumAt (V2 m ρ) c 15 last_lt i) _) e

/-- The perplexity before the last reshape. -/
theorem out_perplexity (c : Dev nD) :
    V3 m ρ c main_v1_3 = fun _ => Cert.ReferenceIdeal.Vq.perplexity (inX m c) (inW m c) ix0 := by
  refine (W3_arr m ρ c 6).trans ?_
  refine (vqDat (V2 m ρ) c).arrAt_eq_of_after_last 6 t1_15 (by decide +kernel) _ fun j => ?_
  blk_simp
  rw [vq_after_6]
  rw [Cert.ReferenceIdeal.Vq.perplexity_ix]
  obtain ⟨p, q, rfl⟩ := ix2_of j
  obtain rfl : p = 0 := Subsingleton.elim _ _
  obtain rfl : q = 0 := Subsingleton.elim _ _
  refine (pay_perplexity _).trans ?_
  have hn : ∀ k, cntAt (V2 m ρ) c t1_15.val t1_15.isLt (ix2 0 k) = _ := counts_all m ρ c
  simp only [hn, Cert.ReferenceIdeal.Vq.shares_ix, zero_sub]

end Cert.KernelIdeal.Vq

end
-- ==== Proof.Loss.lean ====
module

public import proofs.«01_k».proof.Proof.Arrays
public import proofs.«01_k».proof.Pre_finite
public import Idealize.ShloMosaic.Lib.ReduceAll

/-! The two forms of the loss on finite inputs: the smallest expanded distance of a row is the sum of the squares of
the row's errors, and 1.25 times the mean of these is the mean plus a quarter of it. -/

@[expose] public section

set_option maxRecDepth 16384

noncomputable section

namespace Cert.Vq

open Idealize.ShloMosaic Cert.KernelIdeal.Vq
open Cert.ReferenceIdeal.Vq (rowOf codeOf distRow errors errors_ix meanSq meanSq_ix loss loss_ix)

/-- The word of the number 2. -/
theorem word_two : Ideal.ofBits .f32 0x40000000#32 = ((2 : ℝ) : EReal) := by
  simp [Ideal.ofBits, Ideal.ieee]
  rw [← EReal.coe_mul]
  exact congrArg _ (by norm_num)

/-- The word of the number 5/4. -/
theorem word_five_quarters : Ideal.ofBits .f32 0x3FA00000#32 = ((5 / 4 : ℝ) : EReal) := by
  simp [Ideal.ofBits, Ideal.ieee]
  rw [← EReal.coe_mul]
  exact congrArg _ (by norm_num)

/-- The word of the number 1/4. -/
theorem word_quarter : Ideal.ofBits .f32 0x3E800000#32 = ((1 / 4 : ℝ) : EReal) := by
  simp [Ideal.ofBits, Ideal.ieee]
  rw [← EReal.coe_mul]
  exact congrArg _ (by norm_num)

/-- The word of the number of input entries. -/
theorem word_entries : Ideal.ofBits .f32 0x4B000000#32 = ((8388608 : ℝ) : EReal) := by
  simp [Ideal.ofBits, Ideal.ieee] <;> norm_num

/-- A sum of real values is a real value. -/
theorem coe_sum_real {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- On real values the expanded distance is the sum of the squared differences. -/
theorem distOf_real (u v : Fin 256 → ℝ) : distOf (fun d => (u d : EReal)) (fun d => (v d : EReal))
    = ((∑ d, (v d - u d) * (v d - u d) : ℝ) : EReal) := by
  have e : ∑ d, (v d - u d) * (v d - u d) = (∑ d, u d * u d) + (∑ d, v d * v d) - 2 * ∑ d, u d * v d := by
    rw [Finset.mul_sum, ← Finset.sum_add_distrib, ← Finset.sum_sub_distrib]
    exact Finset.sum_congr rfl fun d _ => by ring
  rw [distOf, word_two, e]
  simp only [coe_sum_real, EReal.coe_add, EReal.coe_sub, EReal.coe_mul]

/-- An indicator row's sum against a column is the chosen entry. -/
theorem hot_sum {f : Fin 1024 → EReal} {b : Fin 1024} (hb : FirstMin f b) (v : Fin 1024 → EReal) :
    ∑ k, hot f k * v k = v b := by
  simp only [hot_eq hb, ite_mul, one_mul, zero_mul, Finset.sum_ite_eq, Finset.mem_univ, if_true]

variable (x : FVec Ideal Cert.ReferenceIdeal.S32x1024x256 .f32) (w : FVec Ideal Cert.ReferenceIdeal.S1024x256 .f32)

/-- The error of row `i` in place `d`. -/
def errOf (i : Fin 32768) (d : Fin 256) : EReal := (∑ k, hot (distRow x w i) k * codeOf w k d) - rowOf x i d

/-- On finite inputs a row's errors are real, and the smallest distance is the sum of their squares. -/
theorem least_real (hx : ∀ j, ∃ r : ℝ, x j = (r : EReal)) (hw : ∀ j, ∃ r : ℝ, w j = (r : EReal)) (i : Fin 32768) :
    ∃ e : Fin 256 → ℝ, (∀ d, errOf x w i d = (e d : EReal)) ∧ leastOf (distRow x w i) = ((∑ d, e d * e d : ℝ) : EReal) := by
  choose u hu using fun d => hx (ix3 (⟨i.val / 1024, by omega⟩ : Fin 32) (⟨i.val % 1024, by omega⟩ : Fin 1024) (d : Fin 256))
  choose v hv using fun (k : Fin 1024) (d : Fin 256) => hw (ix2 k d)
  have hu' : rowOf x i = fun d => (u d : EReal) := funext hu
  have hv' : ∀ k, codeOf w k = fun d => (v k d : EReal) := fun k => funext (hv k)
  obtain ⟨b, hb⟩ := FirstMin.exists (n := 1023) (distRow x w i)
  refine ⟨fun d => v b d - u d, fun d => ?_, ?_⟩
  · rw [errOf, hot_sum hb, hv', hu', EReal.coe_sub]
  · rw [leastOf, fold_min_eq hb, distRow, hu', hv', distOf_real]

/-- On finite inputs the sum of the smallest distances is real and is the sum of all squared errors. -/
theorem sums_real (hx : ∀ j, ∃ r : ℝ, x j = (r : EReal)) (hw : ∀ j, ∃ r : ℝ, w j = (r : EReal)) :
    ∃ s : ℝ, (∑ i, leastOf (distRow x w i) = (s : EReal)) ∧ ∑ i, ∑ d, errOf x w i d * errOf x w i d = (s : EReal) := by
  choose e he hl using least_real x w hx hw
  refine ⟨∑ i, ∑ d, e i d * e i d, ?_, ?_⟩
  · simp only [hl, coe_sum_real]
  · simp only [he, coe_sum_real, EReal.coe_mul]

/-- The mean square over the rows counted together. -/
theorem meanSq_rows : meanSq x w ix0
    = Ideal.div (∑ i, ∑ d, errOf x w i d * errOf x w i d) (Ideal.ofBits .f32 0x4B000000#32) := by
  rw [meanSq_ix]
  refine congrArg (Ideal.div · _) (Fin.sum_mul_add_congr fun a b h => Finset.sum_congr rfl fun d _ => ?_)
  have e : errors x w (ix3 a b d) = errOf x w ⟨a.val * 1024 + b.val, h⟩ d := by
    rw [errors_ix, errOf, rowOf]
    have h1 : (a.val * 1024 + b.val) / 1024 = a.val := by omega
    have h2 : (a.val * 1024 + b.val) % 1024 = b.val := by omega
    simp only [h1, h2]
  rw [e]

/-- On finite inputs the kernel's loss is the reference's. -/
theorem loss_eq (hx : ∀ j, ∃ r : ℝ, x j = (r : EReal)) (hw : ∀ j, ∃ r : ℝ, w j = (r : EReal)) :
    Ideal.div (Ideal.ofBits .f32 0x3FA00000#32 * ∑ i : Fin 32768, leastOf (distRow x w i)) (Ideal.ofBits .f32 0x4B000000#32)
      = loss x w ix0 := by
  obtain ⟨s, h1, h2⟩ := sums_real x w hx hw
  rw [loss_ix, meanSq_rows, h1, h2, word_entries, word_five_quarters, word_quarter,
    Ideal.div_coe (by norm_num), Ideal.div_coe (by norm_num)]
  simp only [← EReal.coe_mul, ← EReal.coe_add]
  exact congrArg _ (by ring)

/-! ## The precondition -/

/-- The side conditions of the precondition's operations. -/
theorem finite_facts : Cert.Pre_finite.Facts where
  bcast_S_S32x1024x256 := by decide
  reducesTo_S32x1024x256_S_d0_1_2 := by decide
  h_S_ := by decide
  bcast_S_S1024x256 := by decide
  reducesTo_S1024x256_S_d0_1 := by decide

/-- A value whose absolute value is below the infinite one is real. -/
theorem real_of_abs_lt (a : EReal)
    (h : FloatOps.cmpf (F := Ideal) (φ := .f32) .olt (FloatOps.hostAbsf a) (Ideal.ofBits .f32 0x7F800000#32) = 1#1) :
    ∃ r : ℝ, a = (r : EReal) := by
  have htop : Ideal.ofBits .f32 0x7F800000#32 = ⊤ := by simp [Ideal.ofBits, Ideal.ieee]
  rw [htop] at h
  have h' : max a (-a) < ⊤ := by
    by_contra hn
    have : Ideal.cmp .olt (max a (-a)) ⊤ = 1#1 := h
    simp [Ideal.cmp, hn] at this
  induction a using EReal.rec with
  | bot => simp at h'
  | coe r => exact ⟨r, rfl⟩
  | top => simp at h'

/-- What the precondition says: every entry of both arrays is real. -/
theorem finite_spec [Cert.Pre_finite.Facts]
    (h : Cert.Pre_finite.fn (F := Ideal) x w = fun _ => 1#1) :
    (∀ j, ∃ r : ℝ, x j = (r : EReal)) ∧ ∀ j, ∃ r : ℝ, w j = (r : EReal) := by
  have h0 := congrFun h ix0
  have hs : Subsingleton Cert.Pre_finite.S_.Idx := ⟨fun a b => funext fun e => e.elim0⟩
  have h1 : _ = 1#1 ∧ _ = 1#1 := (by
    have : ∀ a b : BitVec 1, IntOp.andi a b = 1#1 → a = 1#1 ∧ b = 1#1 := by decide
    exact this _ _ h0)
  exact ⟨fun j => real_of_abs_lt _ (Host.reduce_andi_all _ _ _ _ ix0 h1.1 j),
    fun j => real_of_abs_lt _ (Host.reduce_andi_all _ _ _ _ ix0 h1.2 j)⟩

end Cert.Vq

end
-- ==== Proof.Results.lean ====
module

public import proofs.«01_k».proof.Proof.Loss

/-! The kernel's four results after its whole run are the reference's functions of its two arguments. -/

@[expose] public section

set_option maxRecDepth 16384

noncomputable section

namespace Cert.KernelIdeal.Vq

open Idealize.ShloMosaic Idealize.ShloMosaic.TcCoe Cert.KernelIdeal Cert.KernelIdeal.Gen Cert.Vq
open Cert.ReferenceIdeal.Vq (rowOf codeOf distRow errors_ix quantized quantized_ix loss perplexity codes)

variable (m : (l : Loc nD τ sig) → Buf (Elt Ideal) l) (ρ : Dev nD → PrngReg)

/-- The quantized rows reshaped to the input's shape. -/
theorem rows_shaped (x : FVec Ideal S32x1024x256 .f32) (w : FVec Ideal S1024x256 .f32) :
    shapeCast S32x1024x256 (fun i : S32768x256.Idx => rowOf x (i 0) (i 1)
      + ((∑ k, hot (distRow x w (i 0)) k * codeOf w k (i 1)) - rowOf x (i 0) (i 1))) shapeCasts_S32768x256_S32x1024x256
      = quantized x w := by
  funext i
  obtain ⟨a, b, d, rfl⟩ : ∃ (a : Fin 32) (b : Fin 1024) (d : Fin 256), i = ix3 a b d :=
    ⟨i 0, i 1, i 2, by ext e; match e with | 0 => rfl | 1 => rfl | 2 => rfl⟩
  have h1 : (a.val * 1024 + b.val) / 1024 = a.val := by omega
  have h2 : (a.val * 1024 + b.val) % 1024 = b.val := by omega
  have hr : x (ix3 a b d) = rowOf x ⟨a.val * 1024 + b.val, by omega⟩ d := by
    simp only [rowOf, h1, h2]
  have hq := quantized_ix x w a b d
  rw [errors_ix, hr] at hq
  refine Eq.trans ?_ hq.symm
  generalize quantized x w = q at *
  pointwise

/-- A one-entry array reshaped to no axes. -/
theorem one_entry (z : FVec Ideal S_ .f32) : shapeCast S_ (fun _ : S1x1.Idx => z ix0) shapeCasts_S1x1_S_ = z :=
  funext fun i => congrArg z (funext fun a => a.elim0)

/-- The second result. -/
theorem end_quantized (c : Dev nD) : W4 m ρ c (Proc.devRef .tc main_v2) = quantized (inX m c) (inW m c) := by
  have e : W4 m ρ c (Proc.devRef .tc main_v2)
      = shapeCast S32x1024x256 (V3 m ρ c main_v1_1 : FVec Ideal S32768x256 .f32) shapeCasts_S32768x256_S32x1024x256 := by
    after_results
    rfl
  rw [e, out_rows]
  exact rows_shaped _ _

/-- The first result, on finite inputs. -/
theorem end_loss (c : Dev nD) (hx : ∀ j, ∃ r : ℝ, inX m c j = (r : EReal)) (hw : ∀ j, ∃ r : ℝ, inW m c j = (r : EReal)) :
    W4 m ρ c (Proc.devRef .tc main_v3) = loss (inX m c) (inW m c) := by
  have e : W4 m ρ c (Proc.devRef .tc main_v3)
      = shapeCast S_ (V3 m ρ c main_v1_2 : FVec Ideal S1x1 .f32) shapeCasts_S1x1_S_ := by
    after_results
    rfl
  rw [e, out_loss, loss_eq _ _ hx hw]
  exact one_entry _

/-- The third result. -/
theorem end_perplexity (c : Dev nD) : W4 m ρ c (Proc.devRef .tc main_v4) = perplexity (inX m c) (inW m c) := by
  have e : W4 m ρ c (Proc.devRef .tc main_v4)
      = shapeCast S_ (V3 m ρ c main_v1_3 : FVec Ideal S1x1 .f32) shapeCasts_S1x1_S_ := by
    after_results
    rfl
  rw [e, out_perplexity]
  exact one_entry _

/-- The fourth result. -/
theorem end_codes (c : Dev nD) : W4 m ρ c (Proc.devRef .tc main_v1_0) = codes (inX m c) (inW m c) :=
  (W4_of m ρ c main_v1_0 (by decide)).trans (out_codes m ρ c)

/-- The kernel's run on finite inputs: its four results are the reference's functions of its arguments. -/
theorem run (hx : ∀ (c : Dev nD) j, ∃ r : ℝ, inX m c j = (r : EReal))
    (hw : ∀ (c : Dev nD) j, ∃ r : ℝ, inW m c j = (r : EReal)) :
    θ_run (defs (F := Ideal)) (onTc (τ := τ) (main (F := Ideal))) ⟨m, fun _ => 0, ρ⟩ (fun r => ∀ c : Dev nD,
      r.2.mem ((c.tc : Thread nD τ).loc main_v3) = loss (inX m c) (inW m c)
      ∧ r.2.mem ((c.tc : Thread nD τ).loc main_v2) = quantized (inX m c) (inW m c)
      ∧ r.2.mem ((c.tc : Thread nD τ).loc main_v4) = perplexity (inX m c) (inW m c)
      ∧ r.2.mem ((c.tc : Thread nD τ).loc main_v1_0) = codes (inX m c) (inW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h.1 c _ (mem_uc main_v3 (by decide))).trans (end_loss m ρ c (hx c) (hw c)),
     (h.1 c _ (mem_uc main_v2 (by decide))).trans (end_quantized m ρ c),
     (h.1 c _ (mem_uc main_v4 (by decide))).trans (end_perplexity m ρ c),
     (h.1 c _ (mem_uc main_v1_0 (by decide))).trans (end_codes m ρ c),
     (h.1 c _ (mem_uc main_arg0 (by decide))).trans (W4_main_arg0 m ρ c),
     (h.1 c _ (mem_uc main_arg1 (by decide))).trans (W4_main_arg1 m ρ c)⟩) (run_all m ρ)

end Cert.KernelIdeal.Vq

end
-- ==== Proof.lean ====
/-
The certificate: the kernel terminates without fault, keeps its arguments and leaves every semaphore at zero, over
words and over the extended reals; so does the reference over the extended reals; and on finite inputs the kernel and
the reference end with the same four results over the extended reals.
-/
module

public import proofs.«01_k».proof.Defs
public import proofs.«01_k».proof.Proof.Transfer
public import proofs.«01_k».proof.Proof.RefRun
public import proofs.«01_k».proof.Proof.Results

@[expose] public section

noncomputable section

namespace Cert.Proof

open Idealize.ShloMosaic Idealize.SL.Sem

/-- On finite inputs the kernel's results are the reference's. -/
theorem same_results [Cert.Pre_finite.Facts] : Cert.algebraic_KernelIdeal_ReferenceIdeal_pre_finite := by
  intro m g m' g' hpre hagree
  have hfin := fun c => Cert.Vq.finite_spec _ _ (hpre c)
  refine ⟨_, _, _, _, Cert.KernelIdeal.Vq.run m g (fun c => (hfin c).1) (fun c => (hfin c).2), ?_⟩
  refine θ_run_mono (Cert.ReferenceIdeal.Vq.run m' g') fun r h c => ?_
  obtain ⟨h0, h1, h2, h3, h4, h5⟩ := h c
  rw [(hagree c).1, (hagree c).2] at h0 h1 h2 h3
  exact ⟨h0, h1, h2, h3, h4, h5⟩

/-- Everything claimed. -/
theorem claim : Cert.Claim :=
  have := Cert.Vq.finite_facts
  ⟨Cert.Kernel.Gen.facts, Cert.KernelIdeal.Gen.facts, Cert.ReferenceIdeal.Gen.facts, Cert.Vq.finite_facts,
    Cert.Vq.frame_words, Cert.Vq.frame_reals, fun m g _ => Cert.Vq.frame_reals m g trivial,
    Cert.ReferenceIdeal.Vq.frame, fun m g _ => Cert.ReferenceIdeal.Vq.frame m g trivial, trivial, same_results⟩

end Cert.Proof

end
